-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨3, ![1, 16384, 2048]⟩ ⟨3, ![2, 16384, 2048]⟩ (Layout.meshBlock [2, 2, 4] ![[1], [], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![16384, 1024]⟩ ⟨2, ![16384, 2048]⟩ (Layout.meshBlock [2, 2, 4] ![[], [1]] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x16384x2048 : Shape := ⟨3, ![1, 16384, 2048]⟩
abbrev S16384x1024 : Shape := ⟨2, ![16384, 1024]⟩
abbrev S8x256x1024 : Shape := ⟨3, ![8, 256, 1024]⟩
abbrev S8192x1024 : Shape := ⟨2, ![8192, 1024]⟩
abbrev S4x256x1024 : Shape := ⟨3, ![4, 256, 1024]⟩
abbrev S8 : Shape := ⟨1, ![8]⟩
abbrev S4 : Shape := ⟨1, ![4]⟩
abbrev S32 : Shape := ⟨1, ![32]⟩
abbrev S1 : Shape := ⟨1, ![1]⟩
abbrev S_ : Shape := ⟨0, ![]⟩
abbrev S1x256x1024 : Shape := ⟨3, ![1, 256, 1024]⟩
abbrev S256x1024 : Shape := ⟨2, ![256, 1024]⟩

abbrev nBuf : Space → Nat
  | .hbm => 2
  | .vmem => 6
  | .smem => 0
  | _ => 0

abbrev bufTy : (tb : Table) → Fin (tcTables nBuf tb) → BufTy
  | .hbm, ⟨0, _⟩ => ⟨S1x16384x2048, .f32⟩
  | .hbm, ⟨1, _⟩ => ⟨S16384x1024, .bf16⟩
  | .local _ .vmem, ⟨0, _⟩ => ⟨S8x256x1024, .f32⟩
  | .local _ .vmem, ⟨1, _⟩ => ⟨S8x256x1024, .f32⟩
  | .local _ .vmem, ⟨2, _⟩ => ⟨S8x256x1024, .bf16⟩
  | .local _ .vmem, ⟨3, _⟩ => ⟨S8192x1024, .bf16⟩
  | .local _ .vmem, ⟨4, _⟩ => ⟨S4x256x1024, .bf16⟩
  | .local _ .vmem, ⟨5, _⟩ => ⟨S8192x1024, .bf16⟩
  | _, _ => ⟨S1x16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 100 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | _ => false

abbrev sig : RefSig :=
  (ofTc nBuf bufTy 1 100 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_scratch5 : Ref sig .tc := ⟨.vmem, 5, rfl⟩
abbrev barrier0 : Sem sig := 0

abbrev nD : Nat := 16
abbrev τ : Topo := Topo.v7x

variable {F : FTy → Type} [FloatOps F]

abbrev grid0 : Pipeline.Grid := .none

def k0_off1 (d0 : Dev nD) (c0_i32 : BitVec 32) : Fin 3 → Nat :=
  let c0_i32_9 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8192_i32 : BitVec 32 := 8192#32
  let v14 : BitVec 32 := Scalar.muli v2 c8192_i32
  let v17 : BitVec 32 := Scalar.addi v14 c0_i32
  let c1_i32_4 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v12 : BitVec 32 := Scalar.subi c1_i32_4 v5
  let c1024_i32_5 : BitVec 32 := 1024#32
  let v13 : BitVec 32 := Scalar.muli v12 c1024_i32_5
  ![0, v17.toNat, v13.toNat]
def k0_off2 (d0 : Dev nD) (c0_i32_8 : BitVec 32) : Fin 3 → Nat :=
  let c0_i32_14 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8192_i32 : BitVec 32 := 8192#32
  let v14 : BitVec 32 := Scalar.muli v2 c8192_i32
  let v18 : BitVec 32 := Scalar.addi v14 c0_i32_8
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c1024_i32 : BitVec 32 := 1024#32
  let v11 : BitVec 32 := Scalar.muli v5 c1024_i32
  ![0, v18.toNat, v11.toNat]
def k0_dev1 (d0 : Dev nD) : Nat :=
  let c0_i32_75 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_74 : BitVec 32 := 8#32
  let v102 : BitVec 32 := Scalar.muli v2 c8_i32_74
  let v103 : BitVec 32 := Scalar.addi c0_i32_75 v102
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_76 : BitVec 32 := 4#32
  let v104 : BitVec 32 := Scalar.muli v9 c4_i32_76
  let v105 : BitVec 32 := Scalar.addi v103 v104
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_77 : BitVec 32 := 1#32
  let v106 : BitVec 32 := Scalar.muli v8 c1_i32_77
  let v107 : BitVec 32 := Scalar.addi v105 v106
  v107.toNat
def k0_dev2 (d0 : Dev nD) : Nat :=
  let c0_i32_80 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_79 : BitVec 32 := 8#32
  let v108 : BitVec 32 := Scalar.muli v10 c8_i32_79
  let v109 : BitVec 32 := Scalar.addi c0_i32_80 v108
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_81 : BitVec 32 := 4#32
  let v110 : BitVec 32 := Scalar.muli v5 c4_i32_81
  let v111 : BitVec 32 := Scalar.addi v109 v110
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_82 : BitVec 32 := 1#32
  let v112 : BitVec 32 := Scalar.muli v8 c1_i32_82
  let v113 : BitVec 32 := Scalar.addi v111 v112
  v113.toNat
def k0_dev3 (d0 : Dev nD) : Nat :=
  let c0_i32_98 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_97 : BitVec 32 := 8#32
  let v126 : BitVec 32 := Scalar.muli v2 c8_i32_97
  let v127 : BitVec 32 := Scalar.addi c0_i32_98 v126
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_99 : BitVec 32 := 4#32
  let v128 : BitVec 32 := Scalar.muli v9 c4_i32_99
  let v129 : BitVec 32 := Scalar.addi v127 v128
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_100 : BitVec 32 := 1#32
  let v130 : BitVec 32 := Scalar.muli v8 c1_i32_100
  let v131 : BitVec 32 := Scalar.addi v129 v130
  v131.toNat
def k0_dev4 (d0 : Dev nD) : Nat :=
  let c0_i32_119 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_118 : BitVec 32 := 8#32
  let v151 : BitVec 32 := Scalar.muli v2 c8_i32_118
  let v152 : BitVec 32 := Scalar.addi c0_i32_119 v151
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_120 : BitVec 32 := 4#32
  let v153 : BitVec 32 := Scalar.muli v9 c4_i32_120
  let v154 : BitVec 32 := Scalar.addi v152 v153
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_121 : BitVec 32 := 1#32
  let v155 : BitVec 32 := Scalar.muli v8 c1_i32_121
  let v156 : BitVec 32 := Scalar.addi v154 v155
  v156.toNat
def k0_dev5 (d0 : Dev nD) : Nat :=
  let c0_i32_140 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_139 : BitVec 32 := 8#32
  let v176 : BitVec 32 := Scalar.muli v2 c8_i32_139
  let v177 : BitVec 32 := Scalar.addi c0_i32_140 v176
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_141 : BitVec 32 := 4#32
  let v178 : BitVec 32 := Scalar.muli v9 c4_i32_141
  let v179 : BitVec 32 := Scalar.addi v177 v178
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_142 : BitVec 32 := 1#32
  let v180 : BitVec 32 := Scalar.muli v8 c1_i32_142
  let v181 : BitVec 32 := Scalar.addi v179 v180
  v181.toNat
def k0_dev6 (d0 : Dev nD) : Nat :=
  let c0_i32_161 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_160 : BitVec 32 := 8#32
  let v201 : BitVec 32 := Scalar.muli v2 c8_i32_160
  let v202 : BitVec 32 := Scalar.addi c0_i32_161 v201
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_162 : BitVec 32 := 4#32
  let v203 : BitVec 32 := Scalar.muli v9 c4_i32_162
  let v204 : BitVec 32 := Scalar.addi v202 v203
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_163 : BitVec 32 := 1#32
  let v205 : BitVec 32 := Scalar.muli v8 c1_i32_163
  let v206 : BitVec 32 := Scalar.addi v204 v205
  v206.toNat
def k0_dev7 (d0 : Dev nD) : Nat :=
  let c0_i32_192 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_191 : BitVec 32 := 8#32
  let v240 : BitVec 32 := Scalar.muli v2 c8_i32_191
  let v241 : BitVec 32 := Scalar.addi c0_i32_192 v240
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_193 : BitVec 32 := 4#32
  let v242 : BitVec 32 := Scalar.muli v9 c4_i32_193
  let v243 : BitVec 32 := Scalar.addi v241 v242
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_194 : BitVec 32 := 1#32
  let v244 : BitVec 32 := Scalar.muli v8 c1_i32_194
  let v245 : BitVec 32 := Scalar.addi v243 v244
  v245.toNat
def k0_off3 (d0 : Dev nD) (c0_i32_223 : BitVec 32) : Fin 2 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8192_i32 : BitVec 32 := 8192#32
  let v14 : BitVec 32 := Scalar.muli v2 c8192_i32
  let v279 : BitVec 32 := Scalar.addi v14 c0_i32_223
  let c0_i32_226 : BitVec 32 := 0#32
  ![v279.toNat, 0]
def k0_dev8 (d0 : Dev nD) : Nat :=
  let c0_i32_233 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_232 : BitVec 32 := 8#32
  let v285 : BitVec 32 := Scalar.muli v10 c8_i32_232
  let v286 : BitVec 32 := Scalar.addi c0_i32_233 v285
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_234 : BitVec 32 := 4#32
  let v287 : BitVec 32 := Scalar.muli v5 c4_i32_234
  let v288 : BitVec 32 := Scalar.addi v286 v287
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_235 : BitVec 32 := 1#32
  let v289 : BitVec 32 := Scalar.muli v8 c1_i32_235
  let v290 : BitVec 32 := Scalar.addi v288 v289
  v290.toNat
def k0_dev9 (d0 : Dev nD) : Nat :=
  let c0_i32_264 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_263 : BitVec 32 := 8#32
  let v324 : BitVec 32 := Scalar.muli v2 c8_i32_263
  let v325 : BitVec 32 := Scalar.addi c0_i32_264 v324
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_265 : BitVec 32 := 4#32
  let v326 : BitVec 32 := Scalar.muli v9 c4_i32_265
  let v327 : BitVec 32 := Scalar.addi v325 v326
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_266 : BitVec 32 := 1#32
  let v328 : BitVec 32 := Scalar.muli v8 c1_i32_266
  let v329 : BitVec 32 := Scalar.addi v327 v328
  v329.toNat
def k0_dev10 (d0 : Dev nD) : Nat :=
  let c0_i32_304 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_303 : BitVec 32 := 8#32
  let v369 : BitVec 32 := Scalar.muli v10 c8_i32_303
  let v370 : BitVec 32 := Scalar.addi c0_i32_304 v369
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_305 : BitVec 32 := 4#32
  let v371 : BitVec 32 := Scalar.muli v5 c4_i32_305
  let v372 : BitVec 32 := Scalar.addi v370 v371
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_306 : BitVec 32 := 1#32
  let v373 : BitVec 32 := Scalar.muli v8 c1_i32_306
  let v374 : BitVec 32 := Scalar.addi v372 v373
  v374.toNat
def k0_off4 (d0 : Dev nD) (c0_i32_322 : BitVec 32) : Fin 2 → Nat :=
  let c1_i32_6 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v15 : BitVec 32 := Scalar.subi c1_i32_6 v2
  let c8192_i32_7 : BitVec 32 := 8192#32
  let v16 : BitVec 32 := Scalar.muli v15 c8192_i32_7
  let v393 : BitVec 32 := Scalar.addi v16 c0_i32_322
  let c0_i32_324 : BitVec 32 := 0#32
  ![v393.toNat, 0]
def k0_dev11 (d0 : Dev nD) : Nat :=
  let c0_i32_352 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_351 : BitVec 32 := 8#32
  let v424 : BitVec 32 := Scalar.muli v2 c8_i32_351
  let v425 : BitVec 32 := Scalar.addi c0_i32_352 v424
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_353 : BitVec 32 := 4#32
  let v426 : BitVec 32 := Scalar.muli v9 c4_i32_353
  let v427 : BitVec 32 := Scalar.addi v425 v426
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_354 : BitVec 32 := 1#32
  let v428 : BitVec 32 := Scalar.muli v8 c1_i32_354
  let v429 : BitVec 32 := Scalar.addi v427 v428
  v429.toNat
def k0_dev12 (d0 : Dev nD) : Nat :=
  let c0_i32_392 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_391 : BitVec 32 := 8#32
  let v469 : BitVec 32 := Scalar.muli v10 c8_i32_391
  let v470 : BitVec 32 := Scalar.addi c0_i32_392 v469
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_393 : BitVec 32 := 4#32
  let v471 : BitVec 32 := Scalar.muli v5 c4_i32_393
  let v472 : BitVec 32 := Scalar.addi v470 v471
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_394 : BitVec 32 := 1#32
  let v473 : BitVec 32 := Scalar.muli v8 c1_i32_394
  let v474 : BitVec 32 := Scalar.addi v472 v473
  v474.toNat
def k0_dev13 (d0 : Dev nD) : Nat :=
  let c0_i32_440 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_439 : BitVec 32 := 8#32
  let v524 : BitVec 32 := Scalar.muli v2 c8_i32_439
  let v525 : BitVec 32 := Scalar.addi c0_i32_440 v524
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_441 : BitVec 32 := 4#32
  let v526 : BitVec 32 := Scalar.muli v9 c4_i32_441
  let v527 : BitVec 32 := Scalar.addi v525 v526
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_442 : BitVec 32 := 1#32
  let v528 : BitVec 32 := Scalar.muli v8 c1_i32_442
  let v529 : BitVec 32 := Scalar.addi v527 v528
  v529.toNat
def k0_dev14 (d0 : Dev nD) : Nat :=
  let c0_i32_480 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_479 : BitVec 32 := 8#32
  let v569 : BitVec 32 := Scalar.muli v10 c8_i32_479
  let v570 : BitVec 32 := Scalar.addi c0_i32_480 v569
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_481 : BitVec 32 := 4#32
  let v571 : BitVec 32 := Scalar.muli v5 c4_i32_481
  let v572 : BitVec 32 := Scalar.addi v570 v571
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_482 : BitVec 32 := 1#32
  let v573 : BitVec 32 := Scalar.muli v8 c1_i32_482
  let v574 : BitVec 32 := Scalar.addi v572 v573
  v574.toNat
def k0_dev15 (d0 : Dev nD) : Nat :=
  let c0_i32_537 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_536 : BitVec 32 := 8#32
  let v629 : BitVec 32 := Scalar.muli v2 c8_i32_536
  let v630 : BitVec 32 := Scalar.addi c0_i32_537 v629
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_538 : BitVec 32 := 4#32
  let v631 : BitVec 32 := Scalar.muli v9 c4_i32_538
  let v632 : BitVec 32 := Scalar.addi v630 v631
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_539 : BitVec 32 := 1#32
  let v633 : BitVec 32 := Scalar.muli v8 c1_i32_539
  let v634 : BitVec 32 := Scalar.addi v632 v633
  v634.toNat
def k0_dev16 (d0 : Dev nD) : Nat :=
  let c0_i32_590 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_589 : BitVec 32 := 8#32
  let v684 : BitVec 32 := Scalar.muli v10 c8_i32_589
  let v685 : BitVec 32 := Scalar.addi c0_i32_590 v684
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_591 : BitVec 32 := 4#32
  let v686 : BitVec 32 := Scalar.muli v5 c4_i32_591
  let v687 : BitVec 32 := Scalar.addi v685 v686
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_592 : BitVec 32 := 1#32
  let v688 : BitVec 32 := Scalar.muli v8 c1_i32_592
  let v689 : BitVec 32 := Scalar.addi v687 v688
  v689.toNat
def k0_dev17 (d0 : Dev nD) : Nat :=
  let c0_i32_646 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_645 : BitVec 32 := 8#32
  let v744 : BitVec 32 := Scalar.muli v2 c8_i32_645
  let v745 : BitVec 32 := Scalar.addi c0_i32_646 v744
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_647 : BitVec 32 := 4#32
  let v746 : BitVec 32 := Scalar.muli v9 c4_i32_647
  let v747 : BitVec 32 := Scalar.addi v745 v746
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_648 : BitVec 32 := 1#32
  let v748 : BitVec 32 := Scalar.muli v8 c1_i32_648
  let v749 : BitVec 32 := Scalar.addi v747 v748
  v749.toNat
def k0_dev18 (d0 : Dev nD) : Nat :=
  let c0_i32_699 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_698 : BitVec 32 := 8#32
  let v799 : BitVec 32 := Scalar.muli v10 c8_i32_698
  let v800 : BitVec 32 := Scalar.addi c0_i32_699 v799
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_700 : BitVec 32 := 4#32
  let v801 : BitVec 32 := Scalar.muli v5 c4_i32_700
  let v802 : BitVec 32 := Scalar.addi v800 v801
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_701 : BitVec 32 := 1#32
  let v803 : BitVec 32 := Scalar.muli v8 c1_i32_701
  let v804 : BitVec 32 := Scalar.addi v802 v803
  v804.toNat
def k0_dev19 (d0 : Dev nD) : Nat :=
  let c0_i32_759 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_758 : BitVec 32 := 8#32
  let v863 : BitVec 32 := Scalar.muli v2 c8_i32_758
  let v864 : BitVec 32 := Scalar.addi c0_i32_759 v863
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_760 : BitVec 32 := 4#32
  let v865 : BitVec 32 := Scalar.muli v9 c4_i32_760
  let v866 : BitVec 32 := Scalar.addi v864 v865
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_761 : BitVec 32 := 1#32
  let v867 : BitVec 32 := Scalar.muli v8 c1_i32_761
  let v868 : BitVec 32 := Scalar.addi v866 v867
  v868.toNat
def k0_dev20 (d0 : Dev nD) : Nat :=
  let c0_i32_812 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_811 : BitVec 32 := 8#32
  let v918 : BitVec 32 := Scalar.muli v10 c8_i32_811
  let v919 : BitVec 32 := Scalar.addi c0_i32_812 v918
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_813 : BitVec 32 := 4#32
  let v920 : BitVec 32 := Scalar.muli v5 c4_i32_813
  let v921 : BitVec 32 := Scalar.addi v919 v920
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_814 : BitVec 32 := 1#32
  let v922 : BitVec 32 := Scalar.muli v8 c1_i32_814
  let v923 : BitVec 32 := Scalar.addi v921 v922
  v923.toNat
def k0_dev21 (d0 : Dev nD) : Nat :=
  let c0_i32_872 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_871 : BitVec 32 := 8#32
  let v982 : BitVec 32 := Scalar.muli v2 c8_i32_871
  let v983 : BitVec 32 := Scalar.addi c0_i32_872 v982
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_873 : BitVec 32 := 4#32
  let v984 : BitVec 32 := Scalar.muli v9 c4_i32_873
  let v985 : BitVec 32 := Scalar.addi v983 v984
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_874 : BitVec 32 := 1#32
  let v986 : BitVec 32 := Scalar.muli v8 c1_i32_874
  let v987 : BitVec 32 := Scalar.addi v985 v986
  v987.toNat
def k0_dev22 (d0 : Dev nD) : Nat :=
  let c0_i32_925 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_924 : BitVec 32 := 8#32
  let v1037 : BitVec 32 := Scalar.muli v10 c8_i32_924
  let v1038 : BitVec 32 := Scalar.addi c0_i32_925 v1037
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_926 : BitVec 32 := 4#32
  let v1039 : BitVec 32 := Scalar.muli v5 c4_i32_926
  let v1040 : BitVec 32 := Scalar.addi v1038 v1039
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_927 : BitVec 32 := 1#32
  let v1041 : BitVec 32 := Scalar.muli v8 c1_i32_927
  let v1042 : BitVec 32 := Scalar.addi v1040 v1041
  v1042.toNat
def k0_dev23 (d0 : Dev nD) : Nat :=
  let c0_i32_985 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_984 : BitVec 32 := 8#32
  let v1101 : BitVec 32 := Scalar.muli v2 c8_i32_984
  let v1102 : BitVec 32 := Scalar.addi c0_i32_985 v1101
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_986 : BitVec 32 := 4#32
  let v1103 : BitVec 32 := Scalar.muli v9 c4_i32_986
  let v1104 : BitVec 32 := Scalar.addi v1102 v1103
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_987 : BitVec 32 := 1#32
  let v1105 : BitVec 32 := Scalar.muli v8 c1_i32_987
  let v1106 : BitVec 32 := Scalar.addi v1104 v1105
  v1106.toNat
def k0_dev24 (d0 : Dev nD) : Nat :=
  let c0_i32_1038 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_1037 : BitVec 32 := 8#32
  let v1156 : BitVec 32 := Scalar.muli v10 c8_i32_1037
  let v1157 : BitVec 32 := Scalar.addi c0_i32_1038 v1156
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1039 : BitVec 32 := 4#32
  let v1158 : BitVec 32 := Scalar.muli v5 c4_i32_1039
  let v1159 : BitVec 32 := Scalar.addi v1157 v1158
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1040 : BitVec 32 := 1#32
  let v1160 : BitVec 32 := Scalar.muli v8 c1_i32_1040
  let v1161 : BitVec 32 := Scalar.addi v1159 v1160
  v1161.toNat
def k0_dev25 (d0 : Dev nD) : Nat :=
  let c0_i32_1098 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1097 : BitVec 32 := 8#32
  let v1220 : BitVec 32 := Scalar.muli v2 c8_i32_1097
  let v1221 : BitVec 32 := Scalar.addi c0_i32_1098 v1220
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_1099 : BitVec 32 := 4#32
  let v1222 : BitVec 32 := Scalar.muli v9 c4_i32_1099
  let v1223 : BitVec 32 := Scalar.addi v1221 v1222
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1100 : BitVec 32 := 1#32
  let v1224 : BitVec 32 := Scalar.muli v8 c1_i32_1100
  let v1225 : BitVec 32 := Scalar.addi v1223 v1224
  v1225.toNat
def k0_dev26 (d0 : Dev nD) : Nat :=
  let c0_i32_1151 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_1150 : BitVec 32 := 8#32
  let v1275 : BitVec 32 := Scalar.muli v10 c8_i32_1150
  let v1276 : BitVec 32 := Scalar.addi c0_i32_1151 v1275
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1152 : BitVec 32 := 4#32
  let v1277 : BitVec 32 := Scalar.muli v5 c4_i32_1152
  let v1278 : BitVec 32 := Scalar.addi v1276 v1277
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1153 : BitVec 32 := 1#32
  let v1279 : BitVec 32 := Scalar.muli v8 c1_i32_1153
  let v1280 : BitVec 32 := Scalar.addi v1278 v1279
  v1280.toNat
def k0_dev27 (d0 : Dev nD) : Nat :=
  let c0_i32_1211 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1210 : BitVec 32 := 8#32
  let v1339 : BitVec 32 := Scalar.muli v2 c8_i32_1210
  let v1340 : BitVec 32 := Scalar.addi c0_i32_1211 v1339
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_1212 : BitVec 32 := 4#32
  let v1341 : BitVec 32 := Scalar.muli v9 c4_i32_1212
  let v1342 : BitVec 32 := Scalar.addi v1340 v1341
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1213 : BitVec 32 := 1#32
  let v1343 : BitVec 32 := Scalar.muli v8 c1_i32_1213
  let v1344 : BitVec 32 := Scalar.addi v1342 v1343
  v1344.toNat
def k0_dev28 (d0 : Dev nD) : Nat :=
  let c0_i32_1264 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_1263 : BitVec 32 := 8#32
  let v1394 : BitVec 32 := Scalar.muli v10 c8_i32_1263
  let v1395 : BitVec 32 := Scalar.addi c0_i32_1264 v1394
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1265 : BitVec 32 := 4#32
  let v1396 : BitVec 32 := Scalar.muli v5 c4_i32_1265
  let v1397 : BitVec 32 := Scalar.addi v1395 v1396
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1266 : BitVec 32 := 1#32
  let v1398 : BitVec 32 := Scalar.muli v8 c1_i32_1266
  let v1399 : BitVec 32 := Scalar.addi v1397 v1398
  v1399.toNat
def k0_dev29 (d0 : Dev nD) : Nat :=
  let c0_i32_1324 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1323 : BitVec 32 := 8#32
  let v1458 : BitVec 32 := Scalar.muli v2 c8_i32_1323
  let v1459 : BitVec 32 := Scalar.addi c0_i32_1324 v1458
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_1325 : BitVec 32 := 4#32
  let v1460 : BitVec 32 := Scalar.muli v9 c4_i32_1325
  let v1461 : BitVec 32 := Scalar.addi v1459 v1460
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1326 : BitVec 32 := 1#32
  let v1462 : BitVec 32 := Scalar.muli v8 c1_i32_1326
  let v1463 : BitVec 32 := Scalar.addi v1461 v1462
  v1463.toNat
def k0_dev30 (d0 : Dev nD) : Nat :=
  let c0_i32_1377 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_1376 : BitVec 32 := 8#32
  let v1513 : BitVec 32 := Scalar.muli v10 c8_i32_1376
  let v1514 : BitVec 32 := Scalar.addi c0_i32_1377 v1513
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1378 : BitVec 32 := 4#32
  let v1515 : BitVec 32 := Scalar.muli v5 c4_i32_1378
  let v1516 : BitVec 32 := Scalar.addi v1514 v1515
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1379 : BitVec 32 := 1#32
  let v1517 : BitVec 32 := Scalar.muli v8 c1_i32_1379
  let v1518 : BitVec 32 := Scalar.addi v1516 v1517
  v1518.toNat
def k0_dev31 (d0 : Dev nD) : Nat :=
  let c0_i32_1437 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1436 : BitVec 32 := 8#32
  let v1577 : BitVec 32 := Scalar.muli v2 c8_i32_1436
  let v1578 : BitVec 32 := Scalar.addi c0_i32_1437 v1577
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_1438 : BitVec 32 := 4#32
  let v1579 : BitVec 32 := Scalar.muli v9 c4_i32_1438
  let v1580 : BitVec 32 := Scalar.addi v1578 v1579
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1439 : BitVec 32 := 1#32
  let v1581 : BitVec 32 := Scalar.muli v8 c1_i32_1439
  let v1582 : BitVec 32 := Scalar.addi v1580 v1581
  v1582.toNat
def k0_dev32 (d0 : Dev nD) : Nat :=
  let c0_i32_1490 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_1489 : BitVec 32 := 8#32
  let v1632 : BitVec 32 := Scalar.muli v10 c8_i32_1489
  let v1633 : BitVec 32 := Scalar.addi c0_i32_1490 v1632
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1491 : BitVec 32 := 4#32
  let v1634 : BitVec 32 := Scalar.muli v5 c4_i32_1491
  let v1635 : BitVec 32 := Scalar.addi v1633 v1634
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1492 : BitVec 32 := 1#32
  let v1636 : BitVec 32 := Scalar.muli v8 c1_i32_1492
  let v1637 : BitVec 32 := Scalar.addi v1635 v1636
  v1637.toNat
def k0_dev33 (d0 : Dev nD) : Nat :=
  let c0_i32_1550 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1549 : BitVec 32 := 8#32
  let v1696 : BitVec 32 := Scalar.muli v2 c8_i32_1549
  let v1697 : BitVec 32 := Scalar.addi c0_i32_1550 v1696
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_1551 : BitVec 32 := 4#32
  let v1698 : BitVec 32 := Scalar.muli v9 c4_i32_1551
  let v1699 : BitVec 32 := Scalar.addi v1697 v1698
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1552 : BitVec 32 := 1#32
  let v1700 : BitVec 32 := Scalar.muli v8 c1_i32_1552
  let v1701 : BitVec 32 := Scalar.addi v1699 v1700
  v1701.toNat
def k0_dev34 (d0 : Dev nD) : Nat :=
  let c0_i32_1603 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_1602 : BitVec 32 := 8#32
  let v1751 : BitVec 32 := Scalar.muli v10 c8_i32_1602
  let v1752 : BitVec 32 := Scalar.addi c0_i32_1603 v1751
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1604 : BitVec 32 := 4#32
  let v1753 : BitVec 32 := Scalar.muli v5 c4_i32_1604
  let v1754 : BitVec 32 := Scalar.addi v1752 v1753
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1605 : BitVec 32 := 1#32
  let v1755 : BitVec 32 := Scalar.muli v8 c1_i32_1605
  let v1756 : BitVec 32 := Scalar.addi v1754 v1755
  v1756.toNat
def k0_dev35 (d0 : Dev nD) : Nat :=
  let c0_i32_1663 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1662 : BitVec 32 := 8#32
  let v1815 : BitVec 32 := Scalar.muli v2 c8_i32_1662
  let v1816 : BitVec 32 := Scalar.addi c0_i32_1663 v1815
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_1664 : BitVec 32 := 4#32
  let v1817 : BitVec 32 := Scalar.muli v9 c4_i32_1664
  let v1818 : BitVec 32 := Scalar.addi v1816 v1817
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1665 : BitVec 32 := 1#32
  let v1819 : BitVec 32 := Scalar.muli v8 c1_i32_1665
  let v1820 : BitVec 32 := Scalar.addi v1818 v1819
  v1820.toNat
def k0_dev36 (d0 : Dev nD) : Nat :=
  let c0_i32_1716 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_1715 : BitVec 32 := 8#32
  let v1870 : BitVec 32 := Scalar.muli v10 c8_i32_1715
  let v1871 : BitVec 32 := Scalar.addi c0_i32_1716 v1870
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1717 : BitVec 32 := 4#32
  let v1872 : BitVec 32 := Scalar.muli v5 c4_i32_1717
  let v1873 : BitVec 32 := Scalar.addi v1871 v1872
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1718 : BitVec 32 := 1#32
  let v1874 : BitVec 32 := Scalar.muli v8 c1_i32_1718
  let v1875 : BitVec 32 := Scalar.addi v1873 v1874
  v1875.toNat
def k0_dev37 (d0 : Dev nD) : Nat :=
  let c0_i32_1776 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1775 : BitVec 32 := 8#32
  let v1934 : BitVec 32 := Scalar.muli v2 c8_i32_1775
  let v1935 : BitVec 32 := Scalar.addi c0_i32_1776 v1934
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_1777 : BitVec 32 := 4#32
  let v1936 : BitVec 32 := Scalar.muli v9 c4_i32_1777
  let v1937 : BitVec 32 := Scalar.addi v1935 v1936
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1778 : BitVec 32 := 1#32
  let v1938 : BitVec 32 := Scalar.muli v8 c1_i32_1778
  let v1939 : BitVec 32 := Scalar.addi v1937 v1938
  v1939.toNat
def k0_dev38 (d0 : Dev nD) : Nat :=
  let c0_i32_1829 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_1828 : BitVec 32 := 8#32
  let v1989 : BitVec 32 := Scalar.muli v10 c8_i32_1828
  let v1990 : BitVec 32 := Scalar.addi c0_i32_1829 v1989
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1830 : BitVec 32 := 4#32
  let v1991 : BitVec 32 := Scalar.muli v5 c4_i32_1830
  let v1992 : BitVec 32 := Scalar.addi v1990 v1991
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1831 : BitVec 32 := 1#32
  let v1993 : BitVec 32 := Scalar.muli v8 c1_i32_1831
  let v1994 : BitVec 32 := Scalar.addi v1992 v1993
  v1994.toNat
def k0_dev39 (d0 : Dev nD) : Nat :=
  let c0_i32_1889 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1888 : BitVec 32 := 8#32
  let v2053 : BitVec 32 := Scalar.muli v2 c8_i32_1888
  let v2054 : BitVec 32 := Scalar.addi c0_i32_1889 v2053
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_1890 : BitVec 32 := 4#32
  let v2055 : BitVec 32 := Scalar.muli v9 c4_i32_1890
  let v2056 : BitVec 32 := Scalar.addi v2054 v2055
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1891 : BitVec 32 := 1#32
  let v2057 : BitVec 32 := Scalar.muli v8 c1_i32_1891
  let v2058 : BitVec 32 := Scalar.addi v2056 v2057
  v2058.toNat
def k0_dev40 (d0 : Dev nD) : Nat :=
  let c0_i32_1942 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_1941 : BitVec 32 := 8#32
  let v2108 : BitVec 32 := Scalar.muli v10 c8_i32_1941
  let v2109 : BitVec 32 := Scalar.addi c0_i32_1942 v2108
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1943 : BitVec 32 := 4#32
  let v2110 : BitVec 32 := Scalar.muli v5 c4_i32_1943
  let v2111 : BitVec 32 := Scalar.addi v2109 v2110
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1944 : BitVec 32 := 1#32
  let v2112 : BitVec 32 := Scalar.muli v8 c1_i32_1944
  let v2113 : BitVec 32 := Scalar.addi v2111 v2112
  v2113.toNat
def k0_dev41 (d0 : Dev nD) : Nat :=
  let c0_i32_2002 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2001 : BitVec 32 := 8#32
  let v2172 : BitVec 32 := Scalar.muli v2 c8_i32_2001
  let v2173 : BitVec 32 := Scalar.addi c0_i32_2002 v2172
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_2003 : BitVec 32 := 4#32
  let v2174 : BitVec 32 := Scalar.muli v9 c4_i32_2003
  let v2175 : BitVec 32 := Scalar.addi v2173 v2174
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2004 : BitVec 32 := 1#32
  let v2176 : BitVec 32 := Scalar.muli v8 c1_i32_2004
  let v2177 : BitVec 32 := Scalar.addi v2175 v2176
  v2177.toNat
def k0_dev42 (d0 : Dev nD) : Nat :=
  let c0_i32_2055 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_2054 : BitVec 32 := 8#32
  let v2227 : BitVec 32 := Scalar.muli v10 c8_i32_2054
  let v2228 : BitVec 32 := Scalar.addi c0_i32_2055 v2227
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_2056 : BitVec 32 := 4#32
  let v2229 : BitVec 32 := Scalar.muli v5 c4_i32_2056
  let v2230 : BitVec 32 := Scalar.addi v2228 v2229
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2057 : BitVec 32 := 1#32
  let v2231 : BitVec 32 := Scalar.muli v8 c1_i32_2057
  let v2232 : BitVec 32 := Scalar.addi v2230 v2231
  v2232.toNat
def k0_dev43 (d0 : Dev nD) : Nat :=
  let c0_i32_2115 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2114 : BitVec 32 := 8#32
  let v2291 : BitVec 32 := Scalar.muli v2 c8_i32_2114
  let v2292 : BitVec 32 := Scalar.addi c0_i32_2115 v2291
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_2116 : BitVec 32 := 4#32
  let v2293 : BitVec 32 := Scalar.muli v9 c4_i32_2116
  let v2294 : BitVec 32 := Scalar.addi v2292 v2293
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2117 : BitVec 32 := 1#32
  let v2295 : BitVec 32 := Scalar.muli v8 c1_i32_2117
  let v2296 : BitVec 32 := Scalar.addi v2294 v2295
  v2296.toNat
def k0_dev44 (d0 : Dev nD) : Nat :=
  let c0_i32_2168 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_2167 : BitVec 32 := 8#32
  let v2346 : BitVec 32 := Scalar.muli v10 c8_i32_2167
  let v2347 : BitVec 32 := Scalar.addi c0_i32_2168 v2346
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_2169 : BitVec 32 := 4#32
  let v2348 : BitVec 32 := Scalar.muli v5 c4_i32_2169
  let v2349 : BitVec 32 := Scalar.addi v2347 v2348
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2170 : BitVec 32 := 1#32
  let v2350 : BitVec 32 := Scalar.muli v8 c1_i32_2170
  let v2351 : BitVec 32 := Scalar.addi v2349 v2350
  v2351.toNat
def k0_dev45 (d0 : Dev nD) : Nat :=
  let c0_i32_2228 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2227 : BitVec 32 := 8#32
  let v2410 : BitVec 32 := Scalar.muli v2 c8_i32_2227
  let v2411 : BitVec 32 := Scalar.addi c0_i32_2228 v2410
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_2229 : BitVec 32 := 4#32
  let v2412 : BitVec 32 := Scalar.muli v9 c4_i32_2229
  let v2413 : BitVec 32 := Scalar.addi v2411 v2412
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2230 : BitVec 32 := 1#32
  let v2414 : BitVec 32 := Scalar.muli v8 c1_i32_2230
  let v2415 : BitVec 32 := Scalar.addi v2413 v2414
  v2415.toNat
def k0_dev46 (d0 : Dev nD) : Nat :=
  let c0_i32_2281 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_2280 : BitVec 32 := 8#32
  let v2465 : BitVec 32 := Scalar.muli v10 c8_i32_2280
  let v2466 : BitVec 32 := Scalar.addi c0_i32_2281 v2465
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_2282 : BitVec 32 := 4#32
  let v2467 : BitVec 32 := Scalar.muli v5 c4_i32_2282
  let v2468 : BitVec 32 := Scalar.addi v2466 v2467
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2283 : BitVec 32 := 1#32
  let v2469 : BitVec 32 := Scalar.muli v8 c1_i32_2283
  let v2470 : BitVec 32 := Scalar.addi v2468 v2469
  v2470.toNat
def k0_dev47 (d0 : Dev nD) : Nat :=
  let c0_i32_2341 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2340 : BitVec 32 := 8#32
  let v2529 : BitVec 32 := Scalar.muli v2 c8_i32_2340
  let v2530 : BitVec 32 := Scalar.addi c0_i32_2341 v2529
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_2342 : BitVec 32 := 4#32
  let v2531 : BitVec 32 := Scalar.muli v9 c4_i32_2342
  let v2532 : BitVec 32 := Scalar.addi v2530 v2531
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2343 : BitVec 32 := 1#32
  let v2533 : BitVec 32 := Scalar.muli v8 c1_i32_2343
  let v2534 : BitVec 32 := Scalar.addi v2532 v2533
  v2534.toNat
def k0_dev48 (d0 : Dev nD) : Nat :=
  let c0_i32_2394 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_2393 : BitVec 32 := 8#32
  let v2584 : BitVec 32 := Scalar.muli v10 c8_i32_2393
  let v2585 : BitVec 32 := Scalar.addi c0_i32_2394 v2584
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_2395 : BitVec 32 := 4#32
  let v2586 : BitVec 32 := Scalar.muli v5 c4_i32_2395
  let v2587 : BitVec 32 := Scalar.addi v2585 v2586
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2396 : BitVec 32 := 1#32
  let v2588 : BitVec 32 := Scalar.muli v8 c1_i32_2396
  let v2589 : BitVec 32 := Scalar.addi v2587 v2588
  v2589.toNat
def k0_dev49 (d0 : Dev nD) : Nat :=
  let c0_i32_2454 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2453 : BitVec 32 := 8#32
  let v2648 : BitVec 32 := Scalar.muli v2 c8_i32_2453
  let v2649 : BitVec 32 := Scalar.addi c0_i32_2454 v2648
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_2455 : BitVec 32 := 4#32
  let v2650 : BitVec 32 := Scalar.muli v9 c4_i32_2455
  let v2651 : BitVec 32 := Scalar.addi v2649 v2650
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2456 : BitVec 32 := 1#32
  let v2652 : BitVec 32 := Scalar.muli v8 c1_i32_2456
  let v2653 : BitVec 32 := Scalar.addi v2651 v2652
  v2653.toNat
def k0_dev50 (d0 : Dev nD) : Nat :=
  let c0_i32_2507 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_2506 : BitVec 32 := 8#32
  let v2703 : BitVec 32 := Scalar.muli v10 c8_i32_2506
  let v2704 : BitVec 32 := Scalar.addi c0_i32_2507 v2703
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_2508 : BitVec 32 := 4#32
  let v2705 : BitVec 32 := Scalar.muli v5 c4_i32_2508
  let v2706 : BitVec 32 := Scalar.addi v2704 v2705
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2509 : BitVec 32 := 1#32
  let v2707 : BitVec 32 := Scalar.muli v8 c1_i32_2509
  let v2708 : BitVec 32 := Scalar.addi v2706 v2707
  v2708.toNat
def k0_dev51 (d0 : Dev nD) : Nat :=
  let c0_i32_2567 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2566 : BitVec 32 := 8#32
  let v2767 : BitVec 32 := Scalar.muli v2 c8_i32_2566
  let v2768 : BitVec 32 := Scalar.addi c0_i32_2567 v2767
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_2568 : BitVec 32 := 4#32
  let v2769 : BitVec 32 := Scalar.muli v9 c4_i32_2568
  let v2770 : BitVec 32 := Scalar.addi v2768 v2769
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2569 : BitVec 32 := 1#32
  let v2771 : BitVec 32 := Scalar.muli v8 c1_i32_2569
  let v2772 : BitVec 32 := Scalar.addi v2770 v2771
  v2772.toNat
def k0_dev52 (d0 : Dev nD) : Nat :=
  let c0_i32_2620 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_2619 : BitVec 32 := 8#32
  let v2822 : BitVec 32 := Scalar.muli v10 c8_i32_2619
  let v2823 : BitVec 32 := Scalar.addi c0_i32_2620 v2822
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_2621 : BitVec 32 := 4#32
  let v2824 : BitVec 32 := Scalar.muli v5 c4_i32_2621
  let v2825 : BitVec 32 := Scalar.addi v2823 v2824
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2622 : BitVec 32 := 1#32
  let v2826 : BitVec 32 := Scalar.muli v8 c1_i32_2622
  let v2827 : BitVec 32 := Scalar.addi v2825 v2826
  v2827.toNat
def k0_dev53 (d0 : Dev nD) : Nat :=
  let c0_i32_2680 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2679 : BitVec 32 := 8#32
  let v2886 : BitVec 32 := Scalar.muli v2 c8_i32_2679
  let v2887 : BitVec 32 := Scalar.addi c0_i32_2680 v2886
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_2681 : BitVec 32 := 4#32
  let v2888 : BitVec 32 := Scalar.muli v9 c4_i32_2681
  let v2889 : BitVec 32 := Scalar.addi v2887 v2888
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2682 : BitVec 32 := 1#32
  let v2890 : BitVec 32 := Scalar.muli v8 c1_i32_2682
  let v2891 : BitVec 32 := Scalar.addi v2889 v2890
  v2891.toNat
def k0_dev54 (d0 : Dev nD) : Nat :=
  let c0_i32_2733 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_2732 : BitVec 32 := 8#32
  let v2941 : BitVec 32 := Scalar.muli v10 c8_i32_2732
  let v2942 : BitVec 32 := Scalar.addi c0_i32_2733 v2941
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_2734 : BitVec 32 := 4#32
  let v2943 : BitVec 32 := Scalar.muli v5 c4_i32_2734
  let v2944 : BitVec 32 := Scalar.addi v2942 v2943
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2735 : BitVec 32 := 1#32
  let v2945 : BitVec 32 := Scalar.muli v8 c1_i32_2735
  let v2946 : BitVec 32 := Scalar.addi v2944 v2945
  v2946.toNat
def k0_dev55 (d0 : Dev nD) : Nat :=
  let c0_i32_2793 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2792 : BitVec 32 := 8#32
  let v3005 : BitVec 32 := Scalar.muli v2 c8_i32_2792
  let v3006 : BitVec 32 := Scalar.addi c0_i32_2793 v3005
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_2794 : BitVec 32 := 4#32
  let v3007 : BitVec 32 := Scalar.muli v9 c4_i32_2794
  let v3008 : BitVec 32 := Scalar.addi v3006 v3007
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2795 : BitVec 32 := 1#32
  let v3009 : BitVec 32 := Scalar.muli v8 c1_i32_2795
  let v3010 : BitVec 32 := Scalar.addi v3008 v3009
  v3010.toNat
def k0_dev56 (d0 : Dev nD) : Nat :=
  let c0_i32_2846 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_2845 : BitVec 32 := 8#32
  let v3060 : BitVec 32 := Scalar.muli v10 c8_i32_2845
  let v3061 : BitVec 32 := Scalar.addi c0_i32_2846 v3060
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_2847 : BitVec 32 := 4#32
  let v3062 : BitVec 32 := Scalar.muli v5 c4_i32_2847
  let v3063 : BitVec 32 := Scalar.addi v3061 v3062
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2848 : BitVec 32 := 1#32
  let v3064 : BitVec 32 := Scalar.muli v8 c1_i32_2848
  let v3065 : BitVec 32 := Scalar.addi v3063 v3064
  v3065.toNat
def k0_dev57 (d0 : Dev nD) : Nat :=
  let c0_i32_2906 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2905 : BitVec 32 := 8#32
  let v3124 : BitVec 32 := Scalar.muli v2 c8_i32_2905
  let v3125 : BitVec 32 := Scalar.addi c0_i32_2906 v3124
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_2907 : BitVec 32 := 4#32
  let v3126 : BitVec 32 := Scalar.muli v9 c4_i32_2907
  let v3127 : BitVec 32 := Scalar.addi v3125 v3126
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2908 : BitVec 32 := 1#32
  let v3128 : BitVec 32 := Scalar.muli v8 c1_i32_2908
  let v3129 : BitVec 32 := Scalar.addi v3127 v3128
  v3129.toNat
def k0_dev58 (d0 : Dev nD) : Nat :=
  let c0_i32_2959 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_2958 : BitVec 32 := 8#32
  let v3179 : BitVec 32 := Scalar.muli v10 c8_i32_2958
  let v3180 : BitVec 32 := Scalar.addi c0_i32_2959 v3179
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_2960 : BitVec 32 := 4#32
  let v3181 : BitVec 32 := Scalar.muli v5 c4_i32_2960
  let v3182 : BitVec 32 := Scalar.addi v3180 v3181
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2961 : BitVec 32 := 1#32
  let v3183 : BitVec 32 := Scalar.muli v8 c1_i32_2961
  let v3184 : BitVec 32 := Scalar.addi v3182 v3183
  v3184.toNat
def k0_dev59 (d0 : Dev nD) : Nat :=
  let c0_i32_3008 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_3007 : BitVec 32 := 8#32
  let v3229 : BitVec 32 := Scalar.muli v2 c8_i32_3007
  let v3230 : BitVec 32 := Scalar.addi c0_i32_3008 v3229
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_3009 : BitVec 32 := 4#32
  let v3231 : BitVec 32 := Scalar.muli v9 c4_i32_3009
  let v3232 : BitVec 32 := Scalar.addi v3230 v3231
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3010 : BitVec 32 := 1#32
  let v3233 : BitVec 32 := Scalar.muli v8 c1_i32_3010
  let v3234 : BitVec 32 := Scalar.addi v3232 v3233
  v3234.toNat
def k0_dev60 (d0 : Dev nD) : Nat :=
  let c0_i32_3061 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_3060 : BitVec 32 := 8#32
  let v3284 : BitVec 32 := Scalar.muli v10 c8_i32_3060
  let v3285 : BitVec 32 := Scalar.addi c0_i32_3061 v3284
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3062 : BitVec 32 := 4#32
  let v3286 : BitVec 32 := Scalar.muli v5 c4_i32_3062
  let v3287 : BitVec 32 := Scalar.addi v3285 v3286
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3063 : BitVec 32 := 1#32
  let v3288 : BitVec 32 := Scalar.muli v8 c1_i32_3063
  let v3289 : BitVec 32 := Scalar.addi v3287 v3288
  v3289.toNat
def k0_dev61 (d0 : Dev nD) : Nat :=
  let c0_i32_3110 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_3109 : BitVec 32 := 8#32
  let v3334 : BitVec 32 := Scalar.muli v2 c8_i32_3109
  let v3335 : BitVec 32 := Scalar.addi c0_i32_3110 v3334
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_3111 : BitVec 32 := 4#32
  let v3336 : BitVec 32 := Scalar.muli v9 c4_i32_3111
  let v3337 : BitVec 32 := Scalar.addi v3335 v3336
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3112 : BitVec 32 := 1#32
  let v3338 : BitVec 32 := Scalar.muli v8 c1_i32_3112
  let v3339 : BitVec 32 := Scalar.addi v3337 v3338
  v3339.toNat
def k0_dev62 (d0 : Dev nD) : Nat :=
  let c0_i32_3163 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_3162 : BitVec 32 := 8#32
  let v3389 : BitVec 32 := Scalar.muli v10 c8_i32_3162
  let v3390 : BitVec 32 := Scalar.addi c0_i32_3163 v3389
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3164 : BitVec 32 := 4#32
  let v3391 : BitVec 32 := Scalar.muli v5 c4_i32_3164
  let v3392 : BitVec 32 := Scalar.addi v3390 v3391
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3165 : BitVec 32 := 1#32
  let v3393 : BitVec 32 := Scalar.muli v8 c1_i32_3165
  let v3394 : BitVec 32 := Scalar.addi v3392 v3393
  v3394.toNat
def k0_dev63 (d0 : Dev nD) : Nat :=
  let c0_i32_3236 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_3235 : BitVec 32 := 8#32
  let v3464 : BitVec 32 := Scalar.muli v10 c8_i32_3235
  let v3465 : BitVec 32 := Scalar.addi c0_i32_3236 v3464
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3237 : BitVec 32 := 4#32
  let v3466 : BitVec 32 := Scalar.muli v5 c4_i32_3237
  let v3467 : BitVec 32 := Scalar.addi v3465 v3466
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3238 : BitVec 32 := 1#32
  let v3468 : BitVec 32 := Scalar.muli v8 c1_i32_3238
  let v3469 : BitVec 32 := Scalar.addi v3467 v3468
  v3469.toNat
def k0_dev64 (d0 : Dev nD) : Nat :=
  let c0_i32_3309 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_3308 : BitVec 32 := 8#32
  let v3539 : BitVec 32 := Scalar.muli v10 c8_i32_3308
  let v3540 : BitVec 32 := Scalar.addi c0_i32_3309 v3539
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3310 : BitVec 32 := 4#32
  let v3541 : BitVec 32 := Scalar.muli v5 c4_i32_3310
  let v3542 : BitVec 32 := Scalar.addi v3540 v3541
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3311 : BitVec 32 := 1#32
  let v3543 : BitVec 32 := Scalar.muli v8 c1_i32_3311
  let v3544 : BitVec 32 := Scalar.addi v3542 v3543
  v3544.toNat
def k0_dev65 (d0 : Dev nD) : Nat :=
  let c0_i32_3382 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_3381 : BitVec 32 := 8#32
  let v3614 : BitVec 32 := Scalar.muli v10 c8_i32_3381
  let v3615 : BitVec 32 := Scalar.addi c0_i32_3382 v3614
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3383 : BitVec 32 := 4#32
  let v3616 : BitVec 32 := Scalar.muli v5 c4_i32_3383
  let v3617 : BitVec 32 := Scalar.addi v3615 v3616
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3384 : BitVec 32 := 1#32
  let v3618 : BitVec 32 := Scalar.muli v8 c1_i32_3384
  let v3619 : BitVec 32 := Scalar.addi v3617 v3618
  v3619.toNat
def k0_dev66 (d0 : Dev nD) : Nat :=
  let c0_i32_3455 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_3454 : BitVec 32 := 8#32
  let v3689 : BitVec 32 := Scalar.muli v10 c8_i32_3454
  let v3690 : BitVec 32 := Scalar.addi c0_i32_3455 v3689
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3456 : BitVec 32 := 4#32
  let v3691 : BitVec 32 := Scalar.muli v5 c4_i32_3456
  let v3692 : BitVec 32 := Scalar.addi v3690 v3691
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3457 : BitVec 32 := 1#32
  let v3693 : BitVec 32 := Scalar.muli v8 c1_i32_3457
  let v3694 : BitVec 32 := Scalar.addi v3692 v3693
  v3694.toNat
-- ==== ReferenceIdeal.lean ====
abbrev S2x16384x2048 : Shape := ⟨3, ![2, 16384, 2048]⟩
abbrev S_ : Shape := ⟨0, ![]⟩
abbrev S16384x2048 : Shape := ⟨2, ![16384, 2048]⟩

abbrev nBuf : Space → Nat
  | .hbm => 4
  | .vmem => 0
  | .smem => 0
  | _ => 0

abbrev bufTy : (tb : Table) → Fin (tcTables nBuf tb) → BufTy
  | .hbm, ⟨0, _⟩ => ⟨S2x16384x2048, .f32⟩
  | .hbm, ⟨1, _⟩ => ⟨S_, .f32⟩
  | .hbm, ⟨2, _⟩ => ⟨S16384x2048, .f32⟩
  | .hbm, ⟨3, _⟩ => ⟨S16384x2048, .bf16⟩
  | _, _ => ⟨S2x16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.Program.lean ====
module

public import proofs.«01_k».proof.Proof.Gen.KernelIdeal
public import proofs.«01_k».proof.Proof.Gen.KernelIdeal.Launch

/-! The kernel's body as a list of blocks. Each block is written once at a chunk number `k`; the printed body is
    their sequence (`body_eq`). -/

@[expose] public section

noncomputable section

namespace Cert.KernelIdeal.Prf

open Idealize.ShloMosaic Idealize.ShloMosaic.TcCoe Idealize.SL.Sem
open Cert.KernelIdeal Cert.KernelIdeal.Gen

variable {F : FTy → Type} [FloatOps F]

/-! ## Chunks, slots and the evidence of their rectangles -/

/-- The chunk a number stands for. -/
def ck (k : ℕ) : Fin 32 := ⟨k % 32, Nat.mod_lt _ (by decide)⟩

theorem inb8 (k : ℕ) : ∀ a, (![k % 8, 0, 0] : Fin 3 → ℕ) a + S1x256x1024.size a ≤ S8x256x1024.size a := by
  have h : k % 8 < 8 := Nat.mod_lt _ (by decide)
  intro a; fin_cases a
  · show k % 8 + 1 ≤ 8; omega
  · show 0 + 256 ≤ 256; omega
  · show 0 + 1024 ≤ 1024; omega

theorem inb4 (k : ℕ) : ∀ a, (![k % 4, 0, 0] : Fin 3 → ℕ) a + S1x256x1024.size a ≤ S4x256x1024.size a := by
  have h : k % 4 < 4 := Nat.mod_lt _ (by decide)
  intro a; fin_cases a
  · show k % 4 + 1 ≤ 4; omega
  · show 0 + 256 ≤ 256; omega
  · show 0 + 1024 ≤ 1024; omega

theorem inbRow (k : ℕ) : ∀ a, (![256 * (k % 32), 0] : Fin 2 → ℕ) a + S256x1024.size a ≤ S8192x1024.size a := by
  have h : k % 32 < 32 := Nat.mod_lt _ (by decide)
  intro a; fin_cases a
  · show 256 * (k % 32) + 256 ≤ 8192; omega
  · show 0 + 1024 ≤ 1024; omega

theorem inbSem8 (k : ℕ) : ∀ a, (![k % 8] : Fin 1 → ℕ) a + S1.size a ≤ S8.size a := by
  have h : k % 8 < 8 := Nat.mod_lt _ (by decide)
  intro a; fin_cases a; show k % 8 + 1 ≤ 8; omega

theorem inbSem4 (k : ℕ) : ∀ a, (![k % 4] : Fin 1 → ℕ) a + S1.size a ≤ S4.size a := by
  have h : k % 4 < 4 := Nat.mod_lt _ (by decide)
  intro a; fin_cases a; show k % 4 + 1 ≤ 4; omega

theorem inbSem32 (k : ℕ) : ∀ a, (![k % 32] : Fin 1 → ℕ) a + S1.size a ≤ S32.size a := by
  have h : k % 32 < 32 := Nat.mod_lt _ (by decide)
  intro a; fin_cases a; show k % 32 + 1 ≤ 32; omega

/-- Slot `k mod 8` of an eight-slot buffer, slot `k mod 4` of a four-slot one, and the rows of chunk `k` in a receive buffer. -/
abbrev rect8 (k : ℕ) : Rect S8x256x1024 := Rect.unit (s := S8x256x1024) ![k % 8, 0, 0] S1x256x1024.size (inb8 k)
abbrev rect4 (k : ℕ) : Rect S4x256x1024 := Rect.unit (s := S4x256x1024) ![k % 4, 0, 0] S1x256x1024.size (inb4 k)
abbrev rectRow (k : ℕ) : Rect S8192x1024 := Rect.unit (s := S8192x1024) ![256 * (k % 32), 0] S256x1024.size (inbRow k)

theorem words8 (k : ℕ) : (rect8 k).WholeWords (EltTy.packing .bf16) := by
  have h : ∀ s : Fin 8, (Rect.unit (s := S8x256x1024) ![s.val % 8, 0, 0] S1x256x1024.size (inb8 s.val)).WholeWords (EltTy.packing .bf16) := by decide
  have h2 := h ⟨k % 8, Nat.mod_lt _ (by decide)⟩
  simpa only [Nat.mod_mod] using h2
theorem packed8 (k : ℕ) : (rect8 k).PackedRows (EltTy.packing .bf16) := by
  have h : ∀ s : Fin 8, (Rect.unit (s := S8x256x1024) ![s.val % 8, 0, 0] S1x256x1024.size (inb8 s.val)).PackedRows (EltTy.packing .bf16) := by decide
  have h2 := h ⟨k % 8, Nat.mod_lt _ (by decide)⟩
  simpa only [Nat.mod_mod] using h2
theorem words4 (k : ℕ) : (rect4 k).WholeWords (EltTy.packing .bf16) := by
  have h : ∀ s : Fin 4, (Rect.unit (s := S4x256x1024) ![s.val % 4, 0, 0] S1x256x1024.size (inb4 s.val)).WholeWords (EltTy.packing .bf16) := by decide
  have h2 := h ⟨k % 4, Nat.mod_lt _ (by decide)⟩
  simpa only [Nat.mod_mod] using h2
theorem packed4 (k : ℕ) : (rect4 k).PackedRows (EltTy.packing .bf16) := by
  have h : ∀ s : Fin 4, (Rect.unit (s := S4x256x1024) ![s.val % 4, 0, 0] S1x256x1024.size (inb4 s.val)).PackedRows (EltTy.packing .bf16) := by decide
  have h2 := h ⟨k % 4, Nat.mod_lt _ (by decide)⟩
  simpa only [Nat.mod_mod] using h2
theorem wordsRow (k : ℕ) : (rectRow k).WholeWords (EltTy.packing .bf16) := by
  have h : ∀ s : Fin 32, (Rect.unit (s := S8192x1024) ![256 * (s.val % 32), 0] S256x1024.size (inbRow s.val)).WholeWords (EltTy.packing .bf16) := by decide
  have h2 := h (ck k)
  simpa only [ck, Nat.mod_mod] using h2

/-! ## Buffers, views and semaphores -/

abbrev xM : Memref sig .tc .hbm S1x16384x2048 .f32 := Memref.whole main_arg0
abbrev outM : Memref sig .tc .hbm S16384x1024 .bf16 := Memref.whole main_v1
abbrev aM : Memref sig .tc .vmem S8x256x1024 .f32 := Memref.whole cc0_scratch0
abbrev bM : Memref sig .tc .vmem S8x256x1024 .f32 := Memref.whole cc0_scratch1
abbrev ysM : Memref sig .tc .vmem S8x256x1024 .bf16 := Memref.whole cc0_scratch2
abbrev yrM : Memref sig .tc .vmem S8192x1024 .bf16 := Memref.whole cc0_scratch3
abbrev xsM : Memref sig .tc .vmem S4x256x1024 .bf16 := Memref.whole cc0_scratch4
abbrev xrM : Memref sig .tc .vmem S8192x1024 .bf16 := Memref.whole cc0_scratch5

/-- The chunk's rows of `x`, the peer's columns (`xAv`) and the device's own (`xBv`). -/
abbrev xAv (d : Dev nD) (k : ℕ) : Memref sig .tc .hbm S256x1024 .f32 :=
  (xM.slice (Rect.unit (s := S1x16384x2048) (k0_off1 d (BitVec.ofNat 32 (256 * (ck k).val))) S1x256x1024.size (k0_off1_inb d (ck k))) (fun _ => rfl)).squeeze S256x1024 squeezes_S1x256x1024_S256x1024
abbrev xBv (d : Dev nD) (k : ℕ) : Memref sig .tc .hbm S256x1024 .f32 :=
  (xM.slice (Rect.unit (s := S1x16384x2048) (k0_off2 d (BitVec.ofNat 32 (256 * (ck k).val))) S1x256x1024.size (k0_off2_inb d (ck k))) (fun _ => rfl)).squeeze S256x1024 squeezes_S1x256x1024_S256x1024
/-- The chunk's rows of the result, in the device's own half (`outAv`) and in the other (`outBv`). -/
abbrev outAv (d : Dev nD) (k : ℕ) : Memref sig .tc .hbm S256x1024 .bf16 :=
  outM.slice (Rect.unit (s := S16384x1024) (k0_off3 d (BitVec.ofNat 32 (256 * (ck k).val))) S256x1024.size (k0_off3_inb d (ck k))) (fun _ => rfl)
abbrev outBv (d : Dev nD) (k : ℕ) : Memref sig .tc .hbm S256x1024 .bf16 :=
  outM.slice (Rect.unit (s := S16384x1024) (k0_off4 d (BitVec.ofNat 32 (256 * (ck k).val))) S256x1024.size (k0_off4_inb d (ck k))) (fun _ => rfl)
abbrev aV (k : ℕ) : Memref sig .tc .vmem S256x1024 .f32 := (aM.slice (rect8 k) (fun _ => rfl)).squeeze S256x1024 squeezes_S1x256x1024_S256x1024
abbrev bV (k : ℕ) : Memref sig .tc .vmem S256x1024 .f32 := (bM.slice (rect8 k) (fun _ => rfl)).squeeze S256x1024 squeezes_S1x256x1024_S256x1024
abbrev ysV (k : ℕ) : Memref sig .tc .vmem S256x1024 .bf16 := (ysM.slice (rect8 k) (fun _ => rfl)).squeeze S256x1024 squeezes_S1x256x1024_S256x1024
abbrev xsV (k : ℕ) : Memref sig .tc .vmem S256x1024 .bf16 := (xsM.slice (rect4 k) (fun _ => rfl)).squeeze S256x1024 squeezes_S1x256x1024_S256x1024
abbrev yrV (k : ℕ) : Memref sig .tc .vmem S256x1024 .bf16 := yrM.slice (rectRow k) (fun _ => rfl)
abbrev xrV (k : ℕ) : Memref sig .tc .vmem S256x1024 .bf16 := xrM.slice (rectRow k) (fun _ => rfl)

abbrev sem8 (A : DmaSems sig S8) (k : ℕ) : DmaSem sig := ((A.slice (Rect.unit (s := S8) ![k % 8] S1.size (inbSem8 k))).squeeze S_ squeezes_S1_S_).sem
abbrev sem4 (A : DmaSems sig S4) (k : ℕ) : DmaSem sig := ((A.slice (Rect.unit (s := S4) ![k % 4] S1.size (inbSem4 k))).squeeze S_ squeezes_S1_S_).sem
abbrev sem32 (A : DmaSems sig S32) (k : ℕ) : DmaSem sig := ((A.slice (Rect.unit (s := S32) ![k % 32] S1.size (inbSem32 k))).squeeze S_ squeezes_S1_S_).sem
abbrev aS (k : ℕ) : DmaSem sig := sem8 cc0_scratch6 k
abbrev bS (k : ℕ) : DmaSem sig := sem8 cc0_scratch7 k
abbrev stS (k : ℕ) : DmaSem sig := sem4 cc0_scratch8 k
abbrev xtS (k : ℕ) : DmaSem sig := sem4 cc0_scratch9 k
abbrev ysS (k : ℕ) : DmaSem sig := sem8 cc0_scratch10 k
abbrev yrS (k : ℕ) : DmaSem sig := sem32 cc0_scratch11 k
abbrev xsS (k : ℕ) : DmaSem sig := sem4 cc0_scratch12 k
abbrev xrS (k : ℕ) : DmaSem sig := sem32 cc0_scratch13 k
/-- The barrier semaphore. -/
abbrev barS : Sem sig := (SemArray.scalar (sig.barrier 0 rfl) : Sems sig S_).sem

/-- The two neighbours of a device. -/
abbrev peerY (d : Dev nD) : Dev nD := ⟨k0_dev1 d, k0_dev1_lt d⟩
abbrev peerX (d : Dev nD) : Dev nD := ⟨k0_dev2 d, k0_dev2_lt d⟩

theorem words8_ys (k : ℕ) : (ysV k).view.WordExact := ((Memref.isWhole_whole _).wordExact_slice rfl _ (words8 k)).reshape _ _
theorem words4_xs (k : ℕ) : (xsV k).view.WordExact := ((Memref.isWhole_whole _).wordExact_slice rfl _ (words4 k)).reshape _ _
theorem words_yr (k : ℕ) : (yrV k).view.WordExact := (Memref.isWhole_whole _).wordExact_slice rfl _ (wordsRow k)
theorem words_xr (k : ℕ) : (xrV k).view.WordExact := (Memref.isWhole_whole _).wordExact_slice rfl _ (wordsRow k)
theorem words_outA (d : Dev nD) (k : ℕ) : (outAv d k).view.WordExact := (Memref.isWhole_whole _).wordExact_slice rfl _ (k0_off3_wordsbf16 d (ck k))
theorem words_outB (d : Dev nD) (k : ℕ) : (outBv d k).view.WordExact := (Memref.isWhole_whole _).wordExact_slice rfl _ (k0_off4_wordsbf16 d (ck k))

/-! ## The values stored -/

/-- A chunk rounded to bf16. -/
def yPay (v : Vec F S1x256x1024 .f32) : FVec F S1x256x1024 .bf16 :=
  shapeCast S1x256x1024 (truncf .bf16 (shapeCast S256x1024 v shapeCasts_S1x256x1024_S256x1024) bitsLt_bf16_f32) shapeCasts_S256x1024_S1x256x1024
/-- A chunk and a received chunk added, rounded to bf16. -/
def xPay (b : Vec F S1x256x1024 .f32) (r : Vec F S256x1024 .bf16) : FVec F S1x256x1024 .bf16 :=
  shapeCast S1x256x1024 (truncf .bf16 (addf (shapeCast S256x1024 b shapeCasts_S1x256x1024_S256x1024) (extf .f32 r bitsLt_bf16_f32)) bitsLt_bf16_f32) shapeCasts_S256x1024_S1x256x1024

/-! ## The blocks -/

/-- Start the two copies of chunk `k` from `x`. -/
def loadsP (d : Dev nD) (k : ℕ) : Prog (TpuEff nD τ sig (Elt F) Λ₀ .tc) PUnit := do
  Prog.lift (.enqueueDma (xAv d k) (.here (aV k)) (.dma (aS k)) ((View.wordExact_bits rfl).reshape _ _) ((View.wordExact_bits rfl).reshape _ _) ⟨Or.inl rfl, trivial⟩)
  Prog.lift (.enqueueDma (xBv d k) (.here (bV k)) (.dma (bS k)) ((View.wordExact_bits rfl).reshape _ _) ((View.wordExact_bits rfl).reshape _ _) ⟨Or.inl rfl, trivial⟩)

/-- Wait for the send of chunk `k` to the `y` neighbour to leave. -/
def yWaitP (k : ℕ) : Prog (TpuEff nD τ sig (Elt F) Λ₀ .tc) PUnit := Prog.lift (.waitDma2 (ysS k) (yrV k) (ysV k) (words_yr k) (words8_ys k))

/-- Round chunk `k` and send it to the `y` neighbour. -/
def ysendTailP (d : Dev nD) (k : ℕ) : Prog (TpuEff nD τ sig (Elt F) Λ₀ .tc) PUnit := do
  let v : Vec F S1x256x1024 .f32 ← Prog.lift (.load aM (rect8 k).toLoadRect (View.loadsAt_vmem h_S1x256x1024))
  let _u : Vec F S1x256x1024 .bf16 ← Prog.lift (.load ysM (rect8 k).toLoadRect (View.loadsAt_vmem h_S1x256x1024))
  Prog.lift (.store ysM (rect8 k) (yPay v) Finset.univ (View.stores_vmem h_S1x256x1024 ((Memref.isWhole_whole _).storeExact_slice rfl _ (packed8 k)) (fun _ => rfl)) (.inl rfl))
  Prog.lift (.enqueueDma (ysV k) (.remote (Dev.tc (peerY d)) (yrV k) (.dma (ysS k))) (.dma (yrS k)) (words8_ys k) (words_yr k) ⟨⟨rfl, Or.inl rfl⟩, trivial⟩)

/-- Wait for the copy of the peer's columns of chunk `k`. -/
def aWaitP (d : Dev nD) (k : ℕ) : Prog (TpuEff nD τ sig (Elt F) Λ₀ .tc) PUnit :=
  Prog.lift (.waitDma2 (aS k) (xAv d k) (aV k) ((View.wordExact_bits rfl).reshape _ _) ((View.wordExact_bits rfl).reshape _ _))

def ysendP (d : Dev nD) (k : ℕ) : Prog (TpuEff nD τ sig (Elt F) Λ₀ .tc) PUnit := do
  aWaitP d k
  bif Nat.ble 8 k then yWaitP (k - 8) else pure ⟨⟩
  ysendTailP d k

/-- Wait for chunk `k` from the `y` neighbour and for the copy of the device's own columns. -/
def recvP (d : Dev nD) (k : ℕ) : Prog (TpuEff nD τ sig (Elt F) Λ₀ .tc) PUnit := do
  Prog.lift (.waitDma2 (yrS k) (ysV k) (yrV k) (words8_ys k) (words_yr k))
  Prog.lift (.waitDma2 (bS k) (xBv d k) (bV k) ((View.wordExact_bits rfl).reshape _ _) ((View.wordExact_bits rfl).reshape _ _))

/-- Wait for the two copies out of the slot of chunk `k`. -/
def xWaitP (d : Dev nD) (k : ℕ) : Prog (TpuEff nD τ sig (Elt F) Λ₀ .tc) PUnit := do
  Prog.lift (.waitDma2 (stS k) (xsV k) (outAv d k) (words4_xs k) (words_outA d k))
  Prog.lift (.waitDma2 (xsS k) (xrV k) (xsV k) (words_xr k) (words4_xs k))

/-- Add, round, and send chunk `k` to the result and to the `x` neighbour. -/
def sumP (d : Dev nD) (k : ℕ) : Prog (TpuEff nD τ sig (Elt F) Λ₀ .tc) PUnit := do
  let b : Vec F S1x256x1024 .f32 ← Prog.lift (.load bM (rect8 k).toLoadRect (View.loadsAt_vmem h_S1x256x1024))
  let r : Vec F S256x1024 .bf16 ← Prog.lift (.load yrM (rectRow k).toLoadRect (View.loadsAt_vmem h_S256x1024))
  let _u : Vec F S1x256x1024 .bf16 ← Prog.lift (.load xsM (rect4 k).toLoadRect (View.loadsAt_vmem h_S1x256x1024))
  Prog.lift (.store xsM (rect4 k) (xPay b r) Finset.univ (View.stores_vmem h_S1x256x1024 ((Memref.isWhole_whole _).storeExact_slice rfl _ (packed4 k)) (fun _ => rfl)) (.inl rfl))
  Prog.lift (.enqueueDma (xsV k) (.here (outAv d k)) (.dma (stS k)) (words4_xs k) (words_outA d k) ⟨Or.inl rfl, trivial⟩)
  Prog.lift (.enqueueDma (xsV k) (.remote (Dev.tc (peerX d)) (xrV k) (.dma (xsS k))) (.dma (xrS k)) (words4_xs k) (words_xr k) ⟨⟨rfl, Or.inl rfl⟩, trivial⟩)

def mainP (d : Dev nD) (k : ℕ) : Prog (TpuEff nD τ sig (Elt F) Λ₀ .tc) PUnit := do
  recvP d k
  bif Nat.ble 4 k then xWaitP d (k - 4) else pure ⟨⟩
  sumP d k

/-- Wait for the copy of a received chunk to the result. -/
def tWaitP (d : Dev nD) (k : ℕ) : Prog (TpuEff nD τ sig (Elt F) Λ₀ .tc) PUnit := Prog.lift (.waitDma2 (xtS k) (xrV k) (outBv d k) (words_xr k) (words_outB d k))

/-- Wait for chunk `k` from the `x` neighbour and copy it to the result. -/
def drainP (d : Dev nD) (k : ℕ) : Prog (TpuEff nD τ sig (Elt F) Λ₀ .tc) PUnit := do
  Prog.lift (.waitDma2 (xrS k) (xsV k) (xrV k) (words4_xs k) (words_xr k))
  bif Nat.ble 4 k then tWaitP d (k - 4) else pure ⟨⟩
  Prog.lift (.enqueueDma (xrV k) (.here (outBv d k)) (.dma (xtS k)) (words_xr k) (words_outB d k) ⟨Or.inl rfl, trivial⟩)

/-- The blocks, by name. -/
inductive Blk
  | loads (k : ℕ) | ysend (k : ℕ) | main (k : ℕ) | drain (k : ℕ) | xWait (k : ℕ) | yWait (k : ℕ) | tWait (k : ℕ)

def Blk.prog (d : Dev nD) : Blk → Prog (TpuEff nD τ sig (Elt F) Λ₀ .tc) PUnit
  | .loads k => loadsP d k
  | .ysend k => ysendP d k
  | .main k => mainP d k
  | .drain k => drainP d k
  | .xWait k => xWaitP d k
  | .yWait k => yWaitP k
  | .tWait k => tWaitP d k

/-- A list of blocks, in sequence. -/
def runP (d : Dev nD) : List Blk → Prog (TpuEff nD τ sig (Elt F) Λ₀ .tc) PUnit
  | [] => pure ⟨⟩
  | b :: bs => b.prog d >>= fun _ => runP d bs

/-- The blocks of iteration `k` of the main loop. -/
def iter (k : ℕ) : List Blk :=
  (bif Nat.blt (k + 6) 32 then [.loads (k + 6)] else []) ++ (bif Nat.blt (k + 4) 32 then [.ysend (k + 4)] else []) ++
    [.main k] ++ (bif Nat.ble 1 k then [.drain (k - 1)] else [])

/-- All the iterations from `k`, `n` of them. -/
def iters : ℕ → ℕ → List Blk
  | 0, _ => []
  | n + 1, k => iter k ++ iters n (k + 1)

/-- The blocks before the barrier. -/
def pre : List Blk := [.loads 0, .loads 1, .loads 2, .loads 3, .loads 4, .loads 5]
/-- The blocks after it. -/
def post : List Blk :=
  [.ysend 0, .ysend 1, .ysend 2, .ysend 3] ++ iters 32 0 ++ [.drain 31] ++
    [.xWait 28, .xWait 29, .xWait 30, .xWait 31] ++ [.yWait 24, .yWait 25, .yWait 26, .yWait 27, .yWait 28, .yWait 29, .yWait 30, .yWait 31] ++
    [.tWait 28, .tWait 29, .tWait 30, .tWait 31]

/-- The entry handshake with the two neighbours. -/
def barrierP (d : Dev nD) : Prog (TpuEff nD τ sig (Elt F) Λ₀ .tc) PUnit := do
  semSignalWord (peerY d) barS 1#32
  semSignalWord (peerX d) barS 1#32
  semWaitWord barS 2#32

/-- The body. -/
def bodyP : Prog (TpuEff nD τ sig (Elt F) Λ₀ .tc) PUnit := do
  let d : Dev nD ← Prog.lift .deviceId
  runP d pre
  barrierP d
  runP d post

theorem body_eq : (cc0_body xM (Memref.isWhole_whole _) outM (Memref.isWhole_whole _) aM (Memref.isWhole_whole _) bM (Memref.isWhole_whole _) ysM (Memref.isWhole_whole _) yrM (Memref.isWhole_whole _) xsM (Memref.isWhole_whole _) xrM (Memref.isWhole_whole _)
    cc0_scratch6 cc0_scratch7 cc0_scratch8 cc0_scratch9 cc0_scratch10 cc0_scratch11 cc0_scratch12 cc0_scratch13 : Prog (TpuEff nD τ sig (Elt F) Λ₀ .tc) PUnit) = bodyP := by
  chain_rfl

end Cert.KernelIdeal.Prf

end
-- ==== Proof.Proto.lean ====
module

public import proofs.«01_k».proof.Proof.Program
public import Idealize.ShloMosaic.Lib.Pipeline.Launch
public import Idealize.ShloMosaic.Lib.Pipeline.Kit
public import Idealize.ShloMosaic.Lib.Tactic
public import Idealize.ShloMosaic.Lib.Transfers

/-! The protocol of the kernel: what each buffer holds, which cells are shared, what each round of a shared cell hands to
    its owner, what each device owes, and the levels that order the waits. -/

@[expose] public section

noncomputable section

namespace Cert.KernelIdeal.Prf

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy, the rounds' (duties `Bool`), the local copies' counters -/

abbrev UB : Type := URounds (GSem nD τ sig) Bool
abbrev UU : Type := UR sig nD τ × (UB × Counters)

local notation "𝕄" => MT nD τ sig Unit (Elt F) ℕ UU ℕ

abbrev EP : Emb (UR sig nD τ) (MT nD τ sig Unit (Elt F) ℕ UU ℕ) := embL
def ER : Emb UB (MT nD τ sig Unit (Elt F) ℕ UU ℕ) :=
  ((Emb.inl : Emb UB (UB × Counters)).trans (Emb.inr : Emb (UB × Counters) UU)).trans (uEmb (nD := nD) (sig := sig) (Ix := Unit) (Val := Elt F) (Name := ℕ) (U := UU) (Lvl := ℕ)).toEmb
instance : (ER (F := F)).LandsIn (upEmb : UEmb _ 𝕄) := by unfold ER; infer_instance
abbrev EC : UEmb Counters (MT nD τ sig Unit (Elt F) ℕ UU ℕ) := countersEmb (U := UU)

abbrev 𝒱₀ : Variants := Variants.none

variable (m : (ℓ : Loc nD τ sig) → Buf (Elt F) ℓ)

/-! ## A view's elements holding a vector -/

/-- Device `c`'s elements under `v`, at share `q`, holding `w`. -/
def own (c : Dev nD) {sp : Space} {s : Shape} {e : EltTy} (v : Memref sig .tc sp s e) (q : PosShare TreeShare) (w : s.Idx → Elt F e) : sProp 𝕄 :=
  v.view.loc (c : Thread nD τ) ↦[v.view.set]{q} v.view.write (Elt F) (m (v.view.loc (c : Thread nD τ))) w Finset.univ

instance own_storable (c : Dev nD) {sp : Space} {s : Shape} {e : EltTy} (v : Memref sig .tc sp s e) (q) (w : s.Idx → Elt F e) :
    BI.Storable (upEmb : UEmb _ 𝕄) (own m c v q w) := by unfold own; infer_instance

/-- Device `c`'s elements under `v` at any contents. -/
def some' (c : Dev nD) {sp : Space} {s : Shape} {e : EltTy} (v : Memref sig .tc sp s e) : sProp 𝕄 :=
  iprop(∃ f : Buf (Elt F) (v.view.loc (c : Thread nD τ)), v.view.loc (c : Thread nD τ) ↦[v.view.set]{fullShare} f)

instance some_storable (c : Dev nD) {sp : Space} {s : Shape} {e : EltTy} (v : Memref sig .tc sp s e) :
    BI.Storable (upEmb : UEmb _ 𝕄) (some' (F := F) c v) := by unfold some'; infer_instance

theorem write_of_read {sp : Space} {s : Shape} {e : EltTy} (v : Memref sig .tc sp s e) (f g : v.view.ty.Contents (Elt F)) (w : s.Idx → Elt F e)
    (h : v.view.read (Elt F) f = w) : ∀ i ∈ v.view.set, f i = v.view.write (Elt F) g w Finset.univ i := by
  intro i hi
  obtain ⟨x, -, rfl⟩ := Finset.mem_map.mp hi
  subst h
  rw [View.write_emb_of_mem _ _ (Finset.mem_univ x), View.read_apply, cast_cast, cast_eq]

theorem own_intro (c : Dev nD) {sp : Space} {s : Shape} {e : EltTy} (v : Memref sig .tc sp s e) (q : PosShare TreeShare) (w : s.Idx → Elt F e)
    (f : Buf (Elt F) (v.view.loc (c : Thread nD τ))) (h : v.view.read (Elt F) f = w) :
    (v.view.loc (c : Thread nD τ) ↦[v.view.set]{q} f : sProp 𝕄) ⊢ own m c v q w :=
  Entails.of_eq (pointsTo_congr (write_of_read v f _ w h))

theorem own_written (c : Dev nD) {sp : Space} {s : Shape} {e : EltTy} (v : Memref sig .tc sp s e) (q : PosShare TreeShare) (w : s.Idx → Elt F e)
    (f : Buf (Elt F) (v.view.loc (c : Thread nD τ))) :
    (v.view.loc (c : Thread nD τ) ↦[v.view.set]{q} v.view.write (Elt F) f w Finset.univ : sProp 𝕄) ⊢ own m c v q w :=
  own_intro m c v q w _ (View.read_write_univ _ _)

theorem own_some (c : Dev nD) {sp : Space} {s : Shape} {e : EltTy} (v : Memref sig .tc sp s e) (w : s.Idx → Elt F e) :
    own m c v fullShare w ⊢ some' (F := F) c v := by
  unfold own some'; iintro H; iexists _; iexact H

/-! ## The chunks -/

/-- Chunk `k` of the peer's columns, of the device's own columns, of what the device sends to its `y` neighbour, of the sum. -/
def vA (c : Dev nD) (k : ℕ) : S256x1024.Idx → Elt F .f32 := (xAv c k).view.read (Elt F) (m ((xAv c k).view.loc (c : Thread nD τ)))
def vB (c : Dev nD) (k : ℕ) : S256x1024.Idx → Elt F .f32 := (xBv c k).view.read (Elt F) (m ((xBv c k).view.loc (c : Thread nD τ)))
def vY (c : Dev nD) (k : ℕ) : FVec F S256x1024 .bf16 := truncf .bf16 (vA m c k : FVec F S256x1024 .f32) bitsLt_bf16_f32
def vS (c : Dev nD) (k : ℕ) : FVec F S256x1024 .bf16 :=
  truncf .bf16 (addf (vB m c k : FVec F S256x1024 .f32) (extf .f32 (vY m (peerY c) k) bitsLt_bf16_f32)) bitsLt_bf16_f32

theorem peerY_peerY (c : Dev nD) : peerY (peerY c) = c := by revert c; decide
theorem peerX_peerX (c : Dev nD) : peerX (peerX c) = c := by revert c; decide
theorem peerY_ne (c : Dev nD) : peerY c ≠ peerX c := by revert c; decide

/-! ## Numbers -/

abbrev Nb : ℕ := (yrV 0).view.dmaCredit
abbrev Na : ℕ := (aV 0).view.dmaCredit
theorem cr_a (k : ℕ) : (aV k).view.dmaCredit = Na := rfl
theorem cr_b (k : ℕ) : (bV k).view.dmaCredit = Na := rfl
theorem cr_ys (k : ℕ) : (ysV k).view.dmaCredit = Nb := rfl
theorem cr_yr (k : ℕ) : (yrV k).view.dmaCredit = Nb := rfl
theorem cr_xs (k : ℕ) : (xsV k).view.dmaCredit = Nb := rfl
theorem cr_xr (k : ℕ) : (xrV k).view.dmaCredit = Nb := rfl
theorem cr_oa (c : Dev nD) (k : ℕ) : (outAv c k).view.dmaCredit = Nb := rfl
theorem cr_ob (c : Dev nD) (k : ℕ) : (outBv c k).view.dmaCredit = Nb := rfl
theorem Nb_pos : 0 < Nb := View.dmaCredit_pos _ (by decide)
theorem Na_pos : 0 < Na := View.dmaCredit_pos _ (by decide)

theorem sem8_congr (A : DmaSems sig S8) {j k : ℕ} (h : j % 8 = k % 8) : sem8 A j = sem8 A k := by
  have key : ∀ (n n' : ℕ) (hn : ∀ a, (![n] : Fin 1 → ℕ) a + S1.size a ≤ S8.size a) (hn' : ∀ a, (![n'] : Fin 1 → ℕ) a + S1.size a ≤ S8.size a), n = n' →
      ((A.slice (Rect.unit (s := S8) ![n] S1.size hn)).squeeze S_ squeezes_S1_S_).sem = ((A.slice (Rect.unit (s := S8) ![n'] S1.size hn')).squeeze S_ squeezes_S1_S_).sem := by
    intro n n' hn hn' e; subst e; rfl
  exact key _ _ _ _ h
theorem sem4_congr (A : DmaSems sig S4) {j k : ℕ} (h : j % 4 = k % 4) : sem4 A j = sem4 A k := by
  have key : ∀ (n n' : ℕ) (hn : ∀ a, (![n] : Fin 1 → ℕ) a + S1.size a ≤ S4.size a) (hn' : ∀ a, (![n'] : Fin 1 → ℕ) a + S1.size a ≤ S4.size a), n = n' →
      ((A.slice (Rect.unit (s := S4) ![n] S1.size hn)).squeeze S_ squeezes_S1_S_).sem = ((A.slice (Rect.unit (s := S4) ![n'] S1.size hn')).squeeze S_ squeezes_S1_S_).sem := by
    intro n n' hn hn' e; subst e; rfl
  exact key _ _ _ _ h
theorem sem32_congr (A : DmaSems sig S32) {j k : ℕ} (h : j % 32 = k % 32) : sem32 A j = sem32 A k := by
  have key : ∀ (n n' : ℕ) (hn : ∀ a, (![n] : Fin 1 → ℕ) a + S1.size a ≤ S32.size a) (hn' : ∀ a, (![n'] : Fin 1 → ℕ) a + S1.size a ≤ S32.size a), n = n' →
      ((A.slice (Rect.unit (s := S32) ![n] S1.size hn)).squeeze S_ squeezes_S1_S_).sem = ((A.slice (Rect.unit (s := S32) ![n'] S1.size hn')).squeeze S_ squeezes_S1_S_).sem := by
    intro n n' hn hn' e; subst e; rfl
  exact key _ _ _ _ h
theorem rect8_congr {j k : ℕ} (h : j % 8 = k % 8) : rect8 j = rect8 k := by
  have key : ∀ (n n' : ℕ) (hn) (hn'), n = n' →
      Rect.unit (s := S8x256x1024) ![n, 0, 0] S1x256x1024.size hn = Rect.unit (s := S8x256x1024) ![n', 0, 0] S1x256x1024.size hn' := by
    intro n n' hn hn' e; subst e; rfl
  exact key _ _ _ _ h

theorem slot8_congr {e : EltTy} (M : Memref sig .tc .vmem S8x256x1024 e) {j k : ℕ} (h : j % 8 = k % 8) :
    (M.slice (rect8 j) (fun _ => rfl)).squeeze S256x1024 squeezes_S1x256x1024_S256x1024 = (M.slice (rect8 k) (fun _ => rfl)).squeeze S256x1024 squeezes_S1x256x1024_S256x1024 := by
  have key : ∀ (n n' : ℕ) (hn) (hn'), n = n' →
      (M.slice (Rect.unit (s := S8x256x1024) ![n, 0, 0] S1x256x1024.size hn) (fun _ => rfl)).squeeze S256x1024 squeezes_S1x256x1024_S256x1024
        = (M.slice (Rect.unit (s := S8x256x1024) ![n', 0, 0] S1x256x1024.size hn') (fun _ => rfl)).squeeze S256x1024 squeezes_S1x256x1024_S256x1024 := by
    intro n n' hn hn' e; subst e; rfl
  exact key _ _ _ _ h
theorem slot4_congr {e : EltTy} (M : Memref sig .tc .vmem S4x256x1024 e) {j k : ℕ} (h : j % 4 = k % 4) :
    (M.slice (rect4 j) (fun _ => rfl)).squeeze S256x1024 squeezes_S1x256x1024_S256x1024 = (M.slice (rect4 k) (fun _ => rfl)).squeeze S256x1024 squeezes_S1x256x1024_S256x1024 := by
  have key : ∀ (n n' : ℕ) (hn) (hn'), n = n' →
      (M.slice (Rect.unit (s := S4x256x1024) ![n, 0, 0] S1x256x1024.size hn) (fun _ => rfl)).squeeze S256x1024 squeezes_S1x256x1024_S256x1024
        = (M.slice (Rect.unit (s := S4x256x1024) ![n', 0, 0] S1x256x1024.size hn') (fun _ => rfl)).squeeze S256x1024 squeezes_S1x256x1024_S256x1024 := by
    intro n n' hn hn' e; subst e; rfl
  exact key _ _ _ _ h

theorem aS_val (k : ℕ) : (aS k).val = k % 8 := by
  rw [show aS k = aS (k % 8) from sem8_congr _ (Nat.mod_mod _ _).symm]
  exact (by decide : ∀ s : Fin 8, (aS s.val).val = s.val) ⟨k % 8, Nat.mod_lt _ (by decide)⟩
theorem bS_val (k : ℕ) : (bS k).val = 8 + k % 8 := by
  rw [show bS k = bS (k % 8) from sem8_congr _ (Nat.mod_mod _ _).symm]
  exact (by decide : ∀ s : Fin 8, (bS s.val).val = 8 + s.val) ⟨k % 8, Nat.mod_lt _ (by decide)⟩
theorem stS_val (k : ℕ) : (stS k).val = 16 + k % 4 := by
  rw [show stS k = stS (k % 4) from sem4_congr _ (Nat.mod_mod _ _).symm]
  exact (by decide : ∀ s : Fin 4, (stS s.val).val = 16 + s.val) ⟨k % 4, Nat.mod_lt _ (by decide)⟩
theorem xtS_val (k : ℕ) : (xtS k).val = 20 + k % 4 := by
  rw [show xtS k = xtS (k % 4) from sem4_congr _ (Nat.mod_mod _ _).symm]
  exact (by decide : ∀ s : Fin 4, (xtS s.val).val = 20 + s.val) ⟨k % 4, Nat.mod_lt _ (by decide)⟩
theorem ysS_val (k : ℕ) : (ysS k).val = 24 + k % 8 := by
  rw [show ysS k = ysS (k % 8) from sem8_congr _ (Nat.mod_mod _ _).symm]
  exact (by decide : ∀ s : Fin 8, (ysS s.val).val = 24 + s.val) ⟨k % 8, Nat.mod_lt _ (by decide)⟩
theorem yrS_val (k : ℕ) : (yrS k).val = 32 + k % 32 := by
  rw [show yrS k = yrS (k % 32) from sem32_congr _ (Nat.mod_mod _ _).symm]
  exact (by decide : ∀ s : Fin 32, (yrS s.val).val = 32 + s.val) ⟨k % 32, Nat.mod_lt _ (by decide)⟩
theorem xsS_val (k : ℕ) : (xsS k).val = 64 + k % 4 := by
  rw [show xsS k = xsS (k % 4) from sem4_congr _ (Nat.mod_mod _ _).symm]
  exact (by decide : ∀ s : Fin 4, (xsS s.val).val = 64 + s.val) ⟨k % 4, Nat.mod_lt _ (by decide)⟩
theorem xrS_val (k : ℕ) : (xrS k).val = 68 + k % 32 := by
  rw [show xrS k = xrS (k % 32) from sem32_congr _ (Nat.mod_mod _ _).symm]
  exact (by decide : ∀ s : Fin 32, (xrS s.val).val = 68 + s.val) ⟨k % 32, Nat.mod_lt _ (by decide)⟩

/-! ## The shared cells -/

abbrev cl (c : Dev nD) (s : SemLoc sig) : GSem nD τ sig := ((c : Thread nD τ), s)
abbrev barC (c : Dev nD) : GSem nD τ sig := cl c (.reg barS)
abbrev ysC (c : Dev nD) (k : ℕ) : GSem nD τ sig := cl c (.dma (ysS k))
abbrev yrC (c : Dev nD) (k : ℕ) : GSem nD τ sig := cl c (.dma (yrS k))
abbrev xsC (c : Dev nD) (k : ℕ) : GSem nD τ sig := cl c (.dma (xsS k))
abbrev xrC (c : Dev nD) (k : ℕ) : GSem nD τ sig := cl c (.dma (xrS k))

/-- How many rounds the copy semaphore of a number has. -/
def nR (v : ℕ) : ℕ := if v < 24 then 0 else if v < 32 then 4 else if v < 64 then 1 else if v < 68 then 8 else 1

/-- What a round of it hands over. -/
def dmaPay (c : Dev nD) (v r : ℕ) : sProp 𝕄 :=
  if v < 32 then own m c (ysV (v - 24)) fullShare (vY m c (8 * r + (v - 24)))
  else if v < 64 then own m c (yrV (v - 32)) fullShare (vY m (peerY c) (v - 32))
  else if v < 68 then own m c (xsV (v - 64)) fullShare.right (vS m c (4 * r + (v - 64)))
  else own m c (xrV (v - 68)) fullShare (vS m (peerX c) (v - 68))

instance dmaPay_storable (c : Dev nD) (v r : ℕ) : BI.Storable (upEmb : UEmb _ 𝕄) (dmaPay m c v r) := by
  unfold dmaPay; (repeat' split) <;> infer_instance

/-- What the two neighbours' signals hand over: their receive buffers, chunk by chunk. -/
def barPay (c : Dev nD) (d : Bool) : sProp 𝕄 :=
  if d then bigSep (Finset.range 32) (fun k => some' (F := F) (peerX c) (xrV k)) else bigSep (Finset.range 32) (fun k => some' (F := F) (peerY c) (yrV k))

instance barPay_storable (c : Dev nD) (d : Bool) : BI.Storable (upEmb : UEmb _ 𝕄) (barPay (F := F) c d) := by
  unfold barPay; split <;> infer_instance

def Rd : Rounds.Schedule (GSem nD τ sig) Bool 𝕄 where
  duties g r := match g.2 with
    | .reg _ => if r < 1 then Finset.univ else ∅
    | .dma q => if r < nR q.val then {false} else ∅
  unitless _ := False
  amount g _ _ := match g.2 with
    | .reg _ => 1
    | .dma _ => Nb
  payload g r d := match g.2 with
    | .reg _ => barPay g.1.1 d
    | .dma q => dmaPay m g.1.1 q.val r
  amount_pos g _ _ _ := by
    rcases g with ⟨t, s⟩
    cases s
    · exact Nat.one_pos
    · exact Nb_pos

instance Rd_storable (g : GSem nD τ sig) (r : ℕ) (d : Bool) : BI.Storable (upEmb : UEmb _ 𝕄) ((Rd m).payload g r d) := by
  rcases g with ⟨t, s⟩
  cases s
  · exact barPay_storable _ _
  · exact dmaPay_storable m _ _ _

theorem duties_dma (c : Dev nD) (q : DmaSem sig) (r : ℕ) (h : r < nR q.val) : (Rd m).duties (cl c (.dma q)) r = {false} := if_pos h
theorem duties_dma_later (c : Dev nD) (q : DmaSem sig) (r : ℕ) (h : nR q.val ≤ r) : (Rd m).duties (cl c (.dma q)) r = ∅ := if_neg (by omega)
theorem duties_bar (c : Dev nD) : (Rd m).duties (barC c) 0 = Finset.univ := rfl
theorem duties_bar_later (c : Dev nD) (r : ℕ) (h : 1 ≤ r) : (Rd m).duties (barC c) r = ∅ := if_neg (by omega)
theorem expect_dma (c : Dev nD) (q : DmaSem sig) (r : ℕ) (h : r < nR q.val) : (Rd m).expect (cl c (.dma q)) r = Nb := by
  unfold Schedule.expect Schedule.amountOf; rw [duties_dma m c q r h, Finset.sum_singleton]; rfl
theorem expect_bar (c : Dev nD) : (Rd m).expect (barC c) 0 = 2 := by
  unfold Schedule.expect Schedule.amountOf; rw [duties_bar]; rfl
theorem rest_dma (c : Dev nD) (q : DmaSem sig) (r : ℕ) (h : r < nR q.val) :
    bigSep ((Rd m).duties (cl c (.dma q)) r \ ∅) (fun d => (Rd m).payload (cl c (.dma q)) r d) = dmaPay m c q.val r := by
  rw [Finset.sdiff_empty, duties_dma m c q r h, bigSep_singleton]; rfl
theorem rest_bar (c : Dev nD) :
    bigSep ((Rd m).duties (barC c) 0 \ ∅) (fun d => (Rd m).payload (barC c) 0 d) = iprop(barPay (F := F) c false ∗ barPay c true) := by
  rw [Finset.sdiff_empty, duties_bar, bigSep_univ_eq_bigSepL [false, true] (by decide) (by decide), bigSepL_cons_cons, bigSepL_singleton]; rfl

theorem nR_ys (k : ℕ) : nR (ysS k).val = 4 := by rw [ysS_val]; unfold nR; rw [if_neg (by omega), if_pos (by omega)]
theorem nR_yr (k : ℕ) : nR (yrS k).val = 1 := by rw [yrS_val]; unfold nR; rw [if_neg (by omega), if_neg (by omega), if_pos (by omega)]
theorem nR_xs (k : ℕ) : nR (xsS k).val = 8 := by rw [xsS_val]; unfold nR; rw [if_neg (by omega), if_neg (by omega), if_neg (by omega), if_pos (by omega)]
theorem nR_xr (k : ℕ) : nR (xrS k).val = 1 := by rw [xrS_val]; unfold nR; rw [if_neg (by omega), if_neg (by omega), if_neg (by omega), if_neg (by omega)]

theorem pay_ys (c : Dev nD) (k : ℕ) : dmaPay m c (ysS k).val (k / 8) = own m c (ysV k) fullShare (vY m c k) := by
  rw [ysS_val]; unfold dmaPay; rw [if_pos (by omega), Nat.add_sub_cancel_left, Nat.div_add_mod, show ysV (k % 8) = ysV k from slot8_congr _ (Nat.mod_mod _ _)]
theorem pay_xs (c : Dev nD) (k : ℕ) : dmaPay m c (xsS k).val (k / 4) = own m c (xsV k) fullShare.right (vS m c k) := by
  rw [xsS_val]; unfold dmaPay
  rw [if_neg (by omega), if_neg (by omega), if_pos (by omega), Nat.add_sub_cancel_left, Nat.div_add_mod, show xsV (k % 4) = xsV k from slot4_congr _ (Nat.mod_mod _ _)]
theorem pay_yr (c : Dev nD) (k : ℕ) (hk : k < 32) : dmaPay m c (yrS k).val 0 = own m c (yrV k) fullShare (vY m (peerY c) k) := by
  rw [yrS_val, Nat.mod_eq_of_lt hk]; unfold dmaPay
  rw [if_neg (by omega), if_pos (by omega), Nat.add_sub_cancel_left]
theorem pay_xr (c : Dev nD) (k : ℕ) (hk : k < 32) : dmaPay m c (xrS k).val 0 = own m c (xrV k) fullShare (vS m (peerX c) k) := by
  rw [xrS_val, Nat.mod_eq_of_lt hk]; unfold dmaPay
  rw [if_neg (by omega), if_neg (by omega), if_neg (by omega), Nat.add_sub_cancel_left]

/-! ## What a device owes, and the levels -/

theorem Ico_cons {a b : ℕ} (h : a < b) : Finset.Ico a b = insert a (Finset.Ico (a + 1) b) := by
  ext x; simp only [Finset.mem_insert, Finset.mem_Ico]; omega

/-- What device `c` still owes with `n` chunks sent to its `y` neighbour and `k` to its `x` neighbour. -/
def Ow (c : Dev nD) (n k : ℕ) : CellTallies nD τ sig Unit :=
  (∑ j ∈ Finset.Ico n 32, tallyAt (yrC (peerY c) j) () Nb) + ∑ j ∈ Finset.Ico k 32, tallyAt (xrC (peerX c) j) () Nb
/-- What it owes at launch. -/
def O₀ (c : Dev nD) : CellTallies nD τ sig Unit := Ow c 0 0 + tallyAt (barC (peerX c)) () 1 + tallyAt (barC (peerY c)) () 1

theorem Ow_y (c : Dev nD) (n k : ℕ) (h : n < 32) : Ow c n k = Ow c (n + 1) k + tallyAt (yrC (peerY c) n) () Nb := by
  unfold Ow; rw [Ico_cons h, Finset.sum_insert (by simp)]; ac_rfl
theorem Ow_x (c : Dev nD) (n k : ℕ) (h : k < 32) : Ow c n k = Ow c n (k + 1) + tallyAt (xrC (peerX c) k) () Nb := by
  unfold Ow; rw [Ico_cons h, Finset.sum_insert (by simp)]; ac_rfl
theorem Ow_done (c : Dev nD) : Ow c 32 32 = 0 := by unfold Ow; simp

def L (g : GSem nD τ sig) : Finset Unit := if g.1.2 = .tc then {()} else ∅
theorem L_of_ne (g : GSem nD τ sig) (h : g.1.2 ≠ .tc) : L g = ∅ := if_neg h
theorem L_tc (c : Dev nD) (sm : SemLoc sig) : L (cl c sm) = {()} := if_pos rfl

def lvS : SemLoc sig → ℕ
  | .reg _ => 1
  | .dma q => if q.val < 32 then 0 else if q.val < 64 then 2 + 2 * (q.val - 32) else if q.val < 68 then 0 else 3 + 2 * (q.val - 68)
def lv (g : GSem nD τ sig) (_ : Unit) : ℕ := lvS g.2

theorem lv_yr (k : ℕ) (hk : k < 32) : lvS (.dma (yrS k)) = 2 + 2 * k := by
  dsimp only [lvS]; rw [yrS_val, Nat.mod_eq_of_lt hk, if_neg (by omega), if_pos (by omega)]; omega
theorem lv_xr (k : ℕ) (hk : k < 32) : lvS (.dma (xrS k)) = 3 + 2 * k := by
  dsimp only [lvS]; rw [xrS_val, Nat.mod_eq_of_lt hk, if_neg (by omega), if_neg (by omega), if_neg (by omega)]; omega

theorem tally_pos {g g' : GSem nD τ sig} {u : Unit} {n : ℕ} (h : 0 < tallyAt g' () n g u) : g = g' := by
  rw [tallyAt_apply] at h
  by_contra hn
  rw [if_neg fun h' => hn h'.1] at h
  exact Nat.lt_irrefl 0 h

theorem sum_tally_pos (f : ℕ → GSem nD τ sig) (N : ℕ) (S : Finset ℕ) {g : GSem nD τ sig} {u : Unit}
    (h : 0 < (∑ j ∈ S, tallyAt (f j) () N : CellTallies nD τ sig Unit) g u) : ∃ j ∈ S, g = f j := by
  rw [Finset.sum_apply, Finsupp.finset_sum_apply] at h
  by_contra hn
  rw [Finset.sum_eq_zero] at h
  · exact Nat.lt_irrefl 0 h
  · intro j hj
    by_contra h0
    exact hn ⟨j, hj, tally_pos (Nat.pos_of_ne_zero h0)⟩

theorem Ow_pos {c : Dev nD} {n k : ℕ} {g : GSem nD τ sig} {u : Unit} (h : 0 < Ow c n k g u) :
    (∃ j, n ≤ j ∧ j < 32 ∧ g = yrC (peerY c) j) ∨ ∃ j, k ≤ j ∧ j < 32 ∧ g = xrC (peerX c) j := by
  unfold Ow at h
  rw [Pi.add_apply, Finsupp.add_apply] at h
  rcases Nat.add_pos_iff_pos_or_pos.mp h with h | h
  · obtain ⟨j, hj, e⟩ := sum_tally_pos (fun j => yrC (peerY c) j) Nb _ h
    exact .inl ⟨j, (Finset.mem_Ico.mp hj).1, (Finset.mem_Ico.mp hj).2, e⟩
  · obtain ⟨j, hj, e⟩ := sum_tally_pos (fun j => xrC (peerX c) j) Nb _ h
    exact .inr ⟨j, (Finset.mem_Ico.mp hj).1, (Finset.mem_Ico.mp hj).2, e⟩

/-- A wait on a semaphore below everything owed. -/
theorem mayWait (c : Dev nD) (s : SemLoc sig) (n k : ℕ) (hy : lvS s < 2 + 2 * n) (hx : lvS s < 3 + 2 * k) :
    (levAts L lv : sProp 𝕄) ⊢ MayWait (c : Thread nD τ) s () (Ow c n k) :=
  MayOwe.of_cut (L := L) (lev := lv) (lvS s) (fun p hp => by rw [Finset.mem_singleton.mp hp, L_tc]; exact Finset.mem_singleton_self _)
    (fun g u hg => by rcases Ow_pos hg with ⟨j, _, _, rfl⟩ | ⟨j, _, _, rfl⟩ <;> exact Finset.mem_singleton_self _)
    (fun p hp => by rw [Finset.mem_singleton.mp hp]; exact le_refl _)
    (fun g u hg => by
      rcases Ow_pos hg with ⟨j, h1, h2, rfl⟩ | ⟨j, h1, h2, rfl⟩
      · show lvS s < lvS (.dma (yrS j)); rw [lv_yr j h2]; omega
      · show lvS s < lvS (.dma (xrS j)); rw [lv_xr j h2]; omega)

/-- The same at launch. -/
theorem mayWait₀ (c : Dev nD) (s : SemLoc sig) (h : lvS s = 0) : (levAts L lv : sProp 𝕄) ⊢ MayWait (c : Thread nD τ) s () (O₀ c) := by
  have key : ∀ g u, 0 < O₀ c g u → (0 < Ow c 0 0 g u) ∨ g = barC (peerX c) ∨ g = barC (peerY c) := by
    intro g u hg
    unfold O₀ at hg
    rw [Pi.add_apply, Finsupp.add_apply, Pi.add_apply, Finsupp.add_apply] at hg
    rcases Nat.add_pos_iff_pos_or_pos.mp hg with hg | hg
    · rcases Nat.add_pos_iff_pos_or_pos.mp hg with hg | hg
      · exact .inl hg
      · exact .inr (.inl (tally_pos hg))
    · exact .inr (.inr (tally_pos hg))
  refine MayOwe.of_cut (L := L) (lev := lv) 0 (fun p hp => by rw [Finset.mem_singleton.mp hp, L_tc]; exact Finset.mem_singleton_self _)
    (fun g u hg => ?_) (fun p hp => by rw [Finset.mem_singleton.mp hp]; exact le_of_eq h) (fun g u hg => ?_)
  · rcases key g u hg with hg | rfl | rfl
    · rcases Ow_pos hg with ⟨j, _, _, rfl⟩ | ⟨j, _, _, rfl⟩ <;> exact Finset.mem_singleton_self _
    · exact Finset.mem_singleton_self _
    · exact Finset.mem_singleton_self _
  · rcases key g u hg with hg | rfl | rfl
    · rcases Ow_pos hg with ⟨j, h1, h2, rfl⟩ | ⟨j, h1, h2, rfl⟩
      · show 0 < lvS (.dma (yrS j)); rw [lv_yr j h2]; omega
      · show 0 < lvS (.dma (xrS j)); rw [lv_xr j h2]; omega
    · exact Nat.one_pos
    · exact Nat.one_pos

end Cert.KernelIdeal.Prf

end
-- ==== Proof.Blocks.lean ====
module

public import proofs.«01_k».proof.Proof.Proto
public import Idealize.ShloMosaic.Lib.Pipeline.Value

/-! What each block of the body needs and what it leaves, at a symbolic device and chunk. -/

@[expose] public section

noncomputable section

namespace Cert.KernelIdeal.Prf

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (c : Dev nD)

/-- The weakest precondition of a device's program. -/
abbrev W (p : Prog (TpuEff nD τ sig (Elt F) Λ₀ .tc) PUnit) (Φ : PUnit → sProp 𝕄) : sProp 𝕄 :=
  wp frame (wpE (defs₀ (F := F)) 𝒱₀ (c : Thread nD τ) none) Set.univ p Φ

/-! ## The shared records -/

theorem kcell_lt (i : Fin 77) : 23 + i.val < sig.nDmaSem := by
  have := i.isLt; show 23 + i.val < 100; omega

/-- The shared cells of a device: its barrier, then its copy semaphores from number 24 on. -/
def csem (i : Fin 77) : SemLoc sig := if i.val = 0 then .reg barS else .dma ⟨23 + i.val, kcell_lt i⟩
abbrev kcell (p : Dev nD × Fin 77) : GSem nD τ sig := cl p.1 (csem p.2)

/-- A cell's invariant at some name, and that its first round has begun. -/
def rec1 (g : GSem nD τ sig) : sProp 𝕄 := iprop((∃ κ : ℕ, cellInv ER (Rd m) κ g) ∗ reached ER g 0)
/-- The invariants of all the shared cells. -/
def recs : sProp 𝕄 := bigSep (Finset.univ : Finset (Dev nD × Fin 77)) (fun p => rec1 m (kcell p))

instance rec1_persistent (g : GSem nD τ sig) : BI.Persistent (rec1 m g) := by unfold rec1; infer_instance
instance recs_persistent : BI.Persistent (recs m) := by unfold recs; infer_instance

theorem recs_at (p : Dev nD × Fin 77) : recs m ⊢ rec1 m (kcell p) := by
  unfold recs; exact bigSep_elim (Finset.mem_univ p)

theorem csem_dma (q : DmaSem sig) (h : 24 ≤ q.val) : ∃ i : Fin 77, csem i = .dma q := by
  have hq : q.val < 100 := q.isLt
  refine ⟨⟨q.val - 23, by omega⟩, ?_⟩
  unfold csem
  rw [if_neg (by show ¬ (q.val - 23 = 0); omega)]
  congr 1; apply Fin.ext; show 23 + (q.val - 23) = q.val; omega

theorem recs_dma (q : DmaSem sig) (h : 24 ≤ q.val) : recs m ⊢ rec1 m (cl c (.dma q)) := by
  obtain ⟨i, hi⟩ := csem_dma q h
  have := recs_at m (c, i)
  rwa [show kcell (c, i) = cl c (.dma q) by show cl c (csem i) = _; rw [hi]] at this
theorem recs_bar : recs m ⊢ rec1 m (barC c) := recs_at m (c, 0)

theorem recs_ys (k : ℕ) : recs m ⊢ rec1 m (ysC c k) := recs_dma m c _ (by rw [ysS_val]; omega)
theorem recs_yr (k : ℕ) : recs m ⊢ rec1 m (yrC c k) := recs_dma m c _ (by rw [yrS_val]; omega)
theorem recs_xs (k : ℕ) : recs m ⊢ rec1 m (xsC c k) := recs_dma m c _ (by rw [xsS_val]; omega)
theorem recs_xr (k : ℕ) : recs m ⊢ rec1 m (xrC c k) := recs_dma m c _ (by rw [xrS_val]; omega)

/-! ## What is owed, at some set of waits -/

def owesE (O : CellTallies nD τ sig Unit) : sProp 𝕄 := iprop(∃ W : Waits sig Unit, owes (c : Thread nD τ) O W)

/-! ## The two waits -/

section Waits
variable {s s' : Shape} {e e' : EltTy} {sp sp' : Space}

/-- A wait on a shared copy semaphore: the round's payload. -/
theorem wp_wait_cell (q : DmaSem sig) (r n k : ℕ) (hq : 24 ≤ q.val) (hr : r < nR q.val) (hy : lvS (.dma q) < 2 + 2 * n) (hx : lvS (.dma q) < 3 + 2 * k)
    {srcw : Memref sig .tc sp' s' e'} {dstw : Memref sig .tc sp s e} {hsrc : srcw.view.WordExact} {hdst : dstw.view.WordExact}
    (hN : dstw.view.dmaCredit = Nb) {kk : PUnit → Prog (TpuEff nD τ sig (Elt F) Λ₀ .tc) PUnit} {Φ : PUnit → sProp 𝕄} :
    iprop(recs m ∗ levAts L lv ∗ cred (tallyAt (cl c (.dma q)) () Nb) ∗ owesE c (Ow c n k) ∗ atPos ER (cl c (.dma q)) r ∅ 0)
      ⊢ iprop(((owesE c (Ow c n k) ∗ atPos ER (cl c (.dma q)) (r + 1) ∅ 0 ∗ reached ER (cl c (.dma q)) (r + 1) ∗ dmaPay m c q.val r) -∗ W c (kk ⟨⟩) Φ)
          -∗ W c (.op (.waitDma2 q srcw dstw hsrc hdst) kk) Φ) := by
  iintro ⟨#HR, #HL, Hc, HO, Hat⟩ Hk
  ihave HI := (recs_dma m c q hq) $$ HR
  unfold rec1 owesE
  icases HI with ⟨⟨%κ, #HI⟩, -⟩
  icases HO with ⟨%Ws, HO⟩
  iapply (Rounds.wp_wait_rest_token 𝒱₀ ER (Rd m) (c : Thread nD τ) none (κ := κ)
      (wpE_waitDma2_eq 𝒱₀ (c : Thread nD τ) none Set.univ) (Set.mem_univ _) () (O := Ow c n k) (W := Ws) (R := r) (m := 0) (T := ∅)
      (by rw [Nat.zero_add, hN, expect_dma m c q r hr])) $$ [Hc HO Hat]
  · isplitr; · iexact HI
    isplitl [Hc]; · rw [hN]; iexact Hc
    isplitl [HO]; · iexact HO
    isplitr; · iapply (mayWait c (.dma q) n k hy hx); iexact HL
    iexact Hat
  iintro ⟨HO, Hat, Hr, Hpay⟩
  ihave Hpay := (Entails.of_eq (rest_dma m c q r hr)) $$ Hpay
  iapply Hk
  isplitl [HO]; · iexists _; iexact HO
  isplitl [Hat]; · iexact Hat
  isplitl [Hr]; · iexact Hr
  iexact Hpay

/-- A wait for one of the device's own local copies. -/
theorem wp_wait_own (q : DmaSem sig) (n k N : ℕ) (h0 : lvS (.dma q) = 0) (D : sProp 𝕄)
    {srcw : Memref sig .tc sp' s' e'} {dstw : Memref sig .tc sp s e} {hsrc : srcw.view.WordExact} {hdst : dstw.view.WordExact}
    (hN : dstw.view.dmaCredit = N) {kk : PUnit → Prog (TpuEff nD τ sig (Elt F) Λ₀ .tc) PUnit} {Φ : PUnit → sProp 𝕄} :
    iprop(Transfers.Flight EC (c : Thread nD τ) (.dma q) () N D ∗ levAts L lv ∗ owesE c (Ow c n k))
      ⊢ iprop(((owesE c (Ow c n k) ∗ semVal (cl c (.dma q)) 0 ∗ D) -∗ W c (kk ⟨⟩) Φ)
          -∗ W c (.op (.waitDma2 q srcw dstw hsrc hdst) kk) Φ) := by
  iintro ⟨Hf, #HL, HO⟩ Hk
  unfold owesE
  icases HO with ⟨%Ws, HO⟩
  iapply (Transfers.wp_waitLocalO EC 𝒱₀ (c : Thread nD τ) none () hN (O := Ow c n k) (W := Ws)) $$ [Hf HO]
  · isplitl [Hf]; · iexact Hf
    isplitl [HO]; · iexact HO
    iapply (mayWait c (.dma q) n k (by omega) (by omega)); iexact HL
  iintro ⟨HD, Hs, HO⟩
  iapply Hk
  isplitl [HO]; · iexists _; iexact HO
  isplitl [Hs]; · iexact Hs
  iexact HD

/-- The start of a local copy. -/
theorem wp_copy (q : DmaSem sig) (N : ℕ) {src : Memref sig .tc sp s e} {dst : Memref sig .tc sp' s e} {hsrc : src.view.WordExact} {hdst : dst.view.WordExact}
    {hsem : DmaTarget.Typed (nD := nD) (τ := τ) (p := .tc) sp (.dma q) (.here dst)} {sh : PosShare TreeShare}
    {fs : Buf (Elt F) (src.view.loc (c : Thread nD τ))} (hN : dst.view.dmaCredit = N) (hN0 : 0 < N)
    {kk : PUnit → Prog (TpuEff nD τ sig (Elt F) Λ₀ .tc) PUnit} {Φ : PUnit → sProp 𝕄} :
    iprop((src.view.loc (c : Thread nD τ) ↦[src.view.set]{sh} fs) ∗ some' c dst ∗ semVal (cl c (.dma q)) 0)
      ⊢ iprop((Transfers.Flight EC (c : Thread nD τ) (.dma q) () N iprop(own m c dst fullShare (src.view.read (Elt F) fs) ∗ (src.view.loc (c : Thread nD τ) ↦[src.view.set]{sh} fs)) -∗ W c (kk ⟨⟩) Φ)
          -∗ W c (.op (.enqueueDma src (.here dst) (.dma q) hsrc hdst hsem) kk) Φ) := by
  unfold some'
  iintro ⟨Hs, ⟨%fd, Hd⟩, Hv⟩ Hk
  iapply (Transfers.wp_dmaLocal EC 𝒱₀ (c : Thread nD τ) none () N (dst := dst) (src := src) (sm := .dma q) hN hN0 (Finset.Subset.refl _)) $$ [Hs Hd Hv]
  · isplitl [Hs]; · iexact Hs
    isplitl [Hd]; · iexact Hd
    iexact Hv
  iintro Hf
  iapply Hk
  iapply (Transfers.Flight_mono EC (c : Thread nD τ) (sep_mono_left (own_written m c dst fullShare (src.view.read (Elt F) fs) fd)))
  iexact Hf

/-- The same from elements holding `w`. -/
theorem wp_copy_own (q : DmaSem sig) (N : ℕ) {src : Memref sig .tc sp s e} {dst : Memref sig .tc sp' s e} {hsrc : src.view.WordExact} {hdst : dst.view.WordExact}
    {hsem : DmaTarget.Typed (nD := nD) (τ := τ) (p := .tc) sp (.dma q) (.here dst)} {sh : PosShare TreeShare} (w : s.Idx → Elt F e)
    (hN : dst.view.dmaCredit = N) (hN0 : 0 < N)
    {kk : PUnit → Prog (TpuEff nD τ sig (Elt F) Λ₀ .tc) PUnit} {Φ : PUnit → sProp 𝕄} :
    iprop(own m c src sh w ∗ some' c dst ∗ semVal (cl c (.dma q)) 0)
      ⊢ iprop((Transfers.Flight EC (c : Thread nD τ) (.dma q) () N iprop(own m c dst fullShare w ∗ own m c src sh w) -∗ W c (kk ⟨⟩) Φ)
          -∗ W c (.op (.enqueueDma src (.here dst) (.dma q) hsrc hdst hsem) kk) Φ) := by
  have h := wp_copy m c q N (src := src) (dst := dst) (hsrc := hsrc) (hdst := hdst) (hsem := hsem) (sh := sh)
    (fs := src.view.write (Elt F) (m (src.view.loc (c : Thread nD τ))) w Finset.univ) hN hN0 (kk := kk) (Φ := Φ)
  rw [View.read_write_univ] at h
  exact h

/-- A send to a neighbour. -/
theorem wp_send (c' : Dev nD) (qs qr : DmaSem sig) (r : ℕ) {src : Memref sig .tc sp s e} {dst : Memref sig .tc sp' s e} {sh : PosShare TreeShare} (w : s.Idx → Elt F e)
    {hsrc : src.view.WordExact} {hdst : dst.view.WordExact} {hsc : dst.view.ref.isScScratch = false}
    {hsem : DmaTarget.Typed (nD := nD) (τ := τ) (p := .tc) sp (.dma qr) (.remote (Dev.tc c') dst (.dma qs) hsc)}
    (hs : 24 ≤ qs.val) (hr : 24 ≤ qr.val) (hrs : r < nR qs.val) (hrr : 0 < nR qr.val) {O O' : CellTallies nD τ sig Unit}
    (hO : O' = O + tallyAt (cl c' (.dma qr)) () Nb) (hN : dst.view.dmaCredit = Nb)
    (hp : dmaPay m c qs.val r = own m c src sh w) (hp' : dmaPay m c' qr.val 0 = own m c' dst fullShare w)
    {kk : PUnit → Prog (TpuEff nD τ sig (Elt F) Λ₀ .tc) PUnit} {Φ : PUnit → sProp 𝕄} :
    iprop(recs m ∗ own m c src sh w ∗ some' c' dst ∗ owesE c O' ∗ dutyTok ER (cl c (.dma qs)) r false ∗ reached ER (cl c (.dma qs)) r
        ∗ dutyTok ER (cl c' (.dma qr)) 0 false)
      ⊢ iprop(((cred (tallyAt (cl c (.dma qs)) () Nb) ∗ owesE c O) -∗ W c (kk ⟨⟩) Φ)
          -∗ W c (.op (.enqueueDma src (.remote (Dev.tc c') dst (.dma qs) hsc) (.dma qr) hsrc hdst hsem) kk) Φ) := by
  iintro ⟨#HR, Hs, Hd, HO, Ht1, Hr1, Ht2⟩ Hk
  ihave HI1 := (recs_dma m c qs hs) $$ HR
  ihave HI2 := (recs_dma m c' qr hr) $$ HR
  unfold rec1 owesE some'
  icases HI1 with ⟨⟨%κ₁, #HI1⟩, -⟩
  icases HI2 with ⟨⟨%κ₂, #HI2⟩, #Hr2⟩
  icases HO with ⟨%Ws, HO⟩
  icases Hd with ⟨%fd, Hd⟩
  iapply (Rounds.wp_send_pointsTo 𝒱₀ ER (Rd m) (c : Thread nD τ) none (κ₁ := κ₁) (κ₂ := κ₂) (r₁ := r) (r₂ := 0) (d₁ := false) (d₂ := false)
      (c' := (Dev.tc c' : Thread nD τ)) (src := src) (dst := dst) (q := sh) (sS := .dma qs) (sem := .dma qr)
      (fs := src.view.write (Elt F) (m (src.view.loc (c : Thread nD τ))) w Finset.univ) (fd := fd)
      (by rw [duties_dma m c _ _ hrs]; exact Finset.mem_singleton_self _)
      (by rw [duties_dma m c' _ _ hrr]; exact Finset.mem_singleton_self _)
      () () Nb hN rfl rfl O hO (W := Ws)
      (by
        show _ ⊢ dmaPay m c qs.val r
        rw [hp]; exact BI.Entails.refl _)
      (by
        show _ ⊢ dmaPay m c' qr.val 0
        rw [hp', View.read_write_univ]
        exact own_written m c' dst fullShare w fd)) $$ [Hs Hd HO Ht1 Hr1 Ht2]
  · isplitr; · iexact HI1
    isplitr; · iexact HI2
    isplitl [Hs]; · unfold own; iexact Hs
    isplitl [Hd]; · iexact Hd
    isplitl [HO]; · iexact HO
    isplitl [Ht1]; · iexact Ht1
    isplitl [Hr1]; · iexact Hr1
    isplitl [Ht2]; · iexact Ht2
    iexact Hr2
  iintro ⟨Hc, HO⟩
  iapply Hk
  isplitl [Hc]; · iexact Hc
  iexists _; iexact HO

end Waits

theorem fly_mono (q : DmaSem sig) (N : ℕ) {D D' : sProp 𝕄} (h : D ⊢ D') :
    (Transfers.Flight EC (c : Thread nD τ) (.dma q) () N D : sProp 𝕄) ⊢ Transfers.Flight EC (c : Thread nD τ) (.dma q) () N D' :=
  Transfers.Flight_mono EC (c : Thread nD τ) h

/-- A shared copy semaphore past its last round is at zero. -/
theorem cell_done (q : DmaSem sig) (hq : 24 ≤ q.val) (r : ℕ) (hr : nR q.val ≤ r) :
    iprop(recs m ∗ atPos ER (cl c (.dma q)) r ∅ 0) ⊢ |={Set.univ}=> semVal (cl c (.dma q)) 0 := by
  iintro ⟨#HR, Hat⟩
  ihave HI := (recs_dma m c q hq) $$ HR
  unfold rec1
  icases HI with ⟨⟨%κ, #HI⟩, -⟩
  iapply (Rounds.cell_close ER (Rd m) (Set.mem_univ κ) (fun h => h) (R := r) (fun r' h' => duties_dma_later m c q r' (le_trans hr h')))
  isplitr; · iexact HI
  iexact Hat

/-! ## Pieces of the state -/

/-- Half of a chunk of `x`, both columns. -/
def Lres (j : ℕ) : sProp 𝕄 :=
  iprop(((xAv c j).view.loc (c : Thread nD τ) ↦[(xAv c j).view.set]{fullShare.right} m ((xAv c j).view.loc (c : Thread nD τ)))
    ∗ ((xBv c j).view.loc (c : Thread nD τ) ↦[(xBv c j).view.set]{fullShare.right} m ((xBv c j).view.loc (c : Thread nD τ))))
def Aslot (j : ℕ) : sProp 𝕄 := iprop(semVal (cl c (.dma (aS j))) 0 ∗ some' c (aV j))
def Bslot (j : ℕ) : sProp 𝕄 := iprop(semVal (cl c (.dma (bS j))) 0 ∗ some' c (bV j))
def Afly (j : ℕ) : sProp 𝕄 := Transfers.Flight EC (c : Thread nD τ) (.dma (aS j)) () Na (own m c (aV j) fullShare (vA m c j))
def Bfly (j : ℕ) : sProp 𝕄 := Transfers.Flight EC (c : Thread nD τ) (.dma (bS j)) () Na (own m c (bV j) fullShare (vB m c j))
def Yres (j : ℕ) : sProp 𝕄 :=
  iprop(dutyTok ER (ysC c j) (j / 8) false ∗ dutyTok ER (yrC (peerY c) j) 0 false ∗ some' (peerY c) (yrV j))
def Yslot (j : ℕ) : sProp 𝕄 := iprop(atPos ER (ysC c j) (j / 8) ∅ 0 ∗ reached ER (ysC c j) (j / 8) ∗ some' c (ysV j))
def Yfly (j : ℕ) : sProp 𝕄 := iprop(atPos ER (ysC c j) (j / 8) ∅ 0 ∗ cred (tallyAt (ysC c j) () Nb))
def Mres (j : ℕ) : sProp 𝕄 :=
  iprop(atPos ER (yrC c j) 0 ∅ 0 ∗ cred (tallyAt (yrC c j) () Nb) ∗ dutyTok ER (xsC c j) (j / 4) false ∗ dutyTok ER (xrC (peerX c) j) 0 false
    ∗ some' (peerX c) (xrV j) ∗ some' c (outAv c j))
def Xslot (j : ℕ) : sProp 𝕄 :=
  iprop(semVal (cl c (.dma (stS j))) 0 ∗ atPos ER (xsC c j) (j / 4) ∅ 0 ∗ reached ER (xsC c j) (j / 4) ∗ some' c (xsV j))
def Xfly (j : ℕ) : sProp 𝕄 :=
  iprop(Transfers.Flight EC (c : Thread nD τ) (.dma (stS j)) () Nb iprop(own m c (outAv c j) fullShare (vS m c j) ∗ own m c (xsV j) fullShare.left (vS m c j))
    ∗ atPos ER (xsC c j) (j / 4) ∅ 0 ∗ cred (tallyAt (xsC c j) () Nb))
def Dres (j : ℕ) : sProp 𝕄 := iprop(atPos ER (xrC c j) 0 ∅ 0 ∗ cred (tallyAt (xrC c j) () Nb) ∗ some' c (outBv c j))
def Tslot (j : ℕ) : sProp 𝕄 := semVal (cl c (.dma (xtS j))) 0
def Tfly (j : ℕ) : sProp 𝕄 :=
  Transfers.Flight EC (c : Thread nD τ) (.dma (xtS j)) () Nb iprop(own m c (outBv c j) fullShare (vS m (peerX c) j) ∗ own m c (xrV j) fullShare (vS m (peerX c) j))

/-- The finished rows of the result. -/
def OutA (j : ℕ) : sProp 𝕄 := own m c (outAv c j) fullShare (vS m c j)
def OutB (j : ℕ) : sProp 𝕄 := iprop(own m c (outBv c j) fullShare (vS m (peerX c) j) ∗ own m c (xrV j) fullShare (vS m (peerX c) j))
def Yrcv (j : ℕ) : sProp 𝕄 := iprop(semVal (yrC c j) 0 ∗ some' c (yrV j))
def Xrcv (j : ℕ) : sProp 𝕄 := semVal (xrC c j) 0

theorem lv_a (k : ℕ) : lvS (.dma (aS k)) = 0 := by dsimp only [lvS]; rw [aS_val, if_pos (by omega)]
theorem lv_b (k : ℕ) : lvS (.dma (bS k)) = 0 := by dsimp only [lvS]; rw [bS_val, if_pos (by omega)]
theorem lv_st (k : ℕ) : lvS (.dma (stS k)) = 0 := by dsimp only [lvS]; rw [stS_val, if_pos (by omega)]
theorem lv_xt (k : ℕ) : lvS (.dma (xtS k)) = 0 := by dsimp only [lvS]; rw [xtS_val, if_pos (by omega)]
theorem lv_ys (k : ℕ) : lvS (.dma (ysS k)) = 0 := by dsimp only [lvS]; rw [ysS_val, if_pos (by omega)]
theorem lv_xs (k : ℕ) : lvS (.dma (xsS k)) = 0 := by
  dsimp only [lvS]; rw [xsS_val, if_neg (by omega), if_neg (by omega), if_pos (by omega)]

/-! ## Loads -/

theorem wp_loads (j : ℕ)
    {Φ : PUnit → sProp 𝕄} {kk : PUnit → Prog (TpuEff nD τ sig (Elt F) Λ₀ .tc) PUnit} :
    iprop(Lres m c j ∗ Aslot c j ∗ Bslot c j) ⊢ iprop(((Afly m c j ∗ Bfly m c j) -∗ W c (kk ⟨⟩) Φ) -∗ W c (loadsP c j >>= kk) Φ) := by
  unfold loadsP Lres Aslot Bslot
  simp only [Prog.lift, Prog.bind_op, Prog.bind_ret, Prog.pure_eq_ret]
  iintro ⟨⟨HA, HB⟩, ⟨Hsa, Hfa⟩, ⟨Hsb, Hfb⟩⟩ Hk
  iapply (wp_copy m c (aS j) Na (src := xAv c j) (dst := aV j) (cr_a j) Na_pos) $$ [HA Hsa Hfa]
  · isplitl [HA]; · iexact HA
    isplitl [Hfa]; · iexact Hfa
    iexact Hsa
  iintro Hfa
  iapply (wp_copy m c (bS j) Na (src := xBv c j) (dst := bV j) (cr_b j) Na_pos) $$ [HB Hsb Hfb]
  · isplitl [HB]; · iexact HB
    isplitl [Hfb]; · iexact Hfb
    iexact Hsb
  iintro Hfb
  iapply Hk
  unfold Afly Bfly vA vB
  isplitl [Hfa]
  · iapply (fly_mono c (aS j) Na sep_elim_left); iexact Hfa
  · iapply (fly_mono c (bS j) Na sep_elim_left); iexact Hfb

/-! ## Reading and filling a slot -/

section Slots
variable {s t : Shape} {e : EltTy}

theorem slot_set (M : Memref sig .tc .vmem s e) (r : Rect s) (hr : ∀ a, r.stride a = 1) (hq : r.shape.Squeezes t) :
    ((M.slice r hr).squeeze t hq).view.set = (M.access r).set := by
  rw [Memref.set_view_squeeze]

/-- A load of a slot yields what the slot holds, with the slot's leading axis. -/
theorem wp_load_slot (M : Memref sig .tc .vmem s e) (r : Rect s) (hr : ∀ a, r.stride a = 1) (hq : r.shape.Squeezes t) {q : PosShare TreeShare}
    {f : Buf (Elt F) (M.view.loc (c : Thread nD τ))} {hl : M.view.LoadsAt r.toLoadRect}
    {k : (r.toLoadRect.shape.Idx → Elt F e) → Prog (TpuEff nD τ sig (Elt F) Λ₀ .tc) PUnit} {Φ : PUnit → sProp 𝕄} :
    (M.view.loc (c : Thread nD τ) ↦[((M.slice r hr).squeeze t hq).view.set]{q} f : sProp 𝕄)
      ⊢ iprop(((M.view.loc (c : Thread nD τ) ↦[((M.slice r hr).squeeze t hq).view.set]{q} f) -∗ W c (k (M.view.readAt (Elt F) r.toLoadRect f)) Φ)
        -∗ W c (.op (.load M r.toLoadRect hl) k) Φ) :=
  wp_load (m := M) 𝒱₀ (c : Thread nD τ) none Set.univ (by rw [slot_set, View.set_slice]; exact Finset.Subset.refl _)

/-- A store over a slot. -/
theorem wp_store_slot (M : Memref sig .tc .vmem s e) (r : Rect s) (hr : ∀ a, r.stride a = 1) (hq : r.shape.Squeezes t) (hc : r.shape.ShapeCasts t) (hc' : t.ShapeCasts r.shape)
    {f : Buf (Elt F) (M.view.loc (c : Thread nD τ))} {w : t.Idx → Elt F e} {hx : (M.access r).Stores Finset.univ} {hm}
    {k : PUnit → Prog (TpuEff nD τ sig (Elt F) Λ₀ .tc) PUnit} {Φ : PUnit → sProp 𝕄} :
    (M.view.loc (c : Thread nD τ) ↦[((M.slice r hr).squeeze t hq).view.set]{fullShare} f : sProp 𝕄)
      ⊢ iprop((own m c ((M.slice r hr).squeeze t hq) fullShare w -∗ W c (k ⟨⟩) Φ)
        -∗ W c (.op (.store M r (shapeCast r.shape w hc') Finset.univ hx hm) k) Φ) := by
  iintro H Hk
  iapply (wp_store (m := M) (r := r) 𝒱₀ (c : Thread nD τ) none Set.univ (by rw [slot_set]; exact Finset.Subset.refl _)) $$ H
  iintro H
  iapply Hk
  iapply (own_intro m c ((M.slice r hr).squeeze t hq) fullShare w _ ?_) $$ H
  rw [Memref.read_squeeze_slice M r hr hq hc]
  rw [show M.view.readAt (Elt F) r.toLoadRect ((M.access r).write (Elt F) f (shapeCast r.shape w hc') Finset.univ) = shapeCast r.shape w hc' from
    View.read_write_univ (v := M.access r) f (shapeCast r.shape w hc'), shapeCast_shapeCast]

end Slots

/-! ## Sends to the `y` neighbour -/

theorem wp_yWait (j n k : ℕ) (hj : j < 32)
    {Φ : PUnit → sProp 𝕄} {kk : PUnit → Prog (TpuEff nD τ sig (Elt F) Λ₀ .tc) PUnit} :
    iprop(recs m ∗ levAts L lv ∗ owesE c (Ow c n k) ∗ Yfly c j)
      ⊢ iprop(((owesE c (Ow c n k) ∗ Yslot (F := F) c (j + 8)) -∗ W c (kk ⟨⟩) Φ) -∗ W c (yWaitP j >>= kk) Φ) := by
  unfold yWaitP Yfly Yslot
  simp only [Prog.lift, Prog.bind_op, Prog.bind_ret, Prog.pure_eq_ret]
  rw [show ysC c (j + 8) = ysC c j from congrArg (fun q => cl c (.dma q)) (sem8_congr _ (by omega)),
    show (j + 8) / 8 = j / 8 + 1 by omega, show ysV (j + 8) = ysV j from slot8_congr _ (by omega)]
  iintro ⟨#HR, #HL, HO, Hat, Hc⟩ Hk
  iapply (wp_wait_cell m c (ysS j) (j / 8) n k (by rw [ysS_val]; omega) (by rw [nR_ys]; omega) (by rw [lv_ys]; omega) (by rw [lv_ys]; omega)
    (srcw := yrV j) (dstw := ysV j) (hsrc := words_yr j) (hdst := words8_ys j) (cr_ys j)) $$ [HO Hat Hc]
  · isplitr; · iexact HR
    isplitr; · iexact HL
    isplitl [Hc]; · iexact Hc
    isplitl [HO]; · iexact HO
    iexact Hat
  iintro ⟨HO, Hat, Hr, Hp⟩
  ihave Hp := (Entails.of_eq (pay_ys m c j)) $$ Hp
  ihave Hp := (own_some m c _ _) $$ Hp
  iapply Hk
  isplitl [HO]; · iexact HO
  isplitl [Hat]; · iexact Hat
  isplitl [Hr]; · iexact Hr
  iexact Hp

theorem wp_aWait (j n k : ℕ)
    {Φ : PUnit → sProp 𝕄} {kk : PUnit → Prog (TpuEff nD τ sig (Elt F) Λ₀ .tc) PUnit} :
    iprop(levAts L lv ∗ owesE c (Ow c n k) ∗ Afly m c j)
      ⊢ iprop(((owesE c (Ow c n k) ∗ semVal (cl c (.dma (aS j))) 0 ∗ own m c (aV j) fullShare (vA m c j)) -∗ W c (kk ⟨⟩) Φ) -∗ W c (aWaitP c j >>= kk) Φ) := by
  unfold aWaitP Afly
  simp only [Prog.lift, Prog.bind_op, Prog.bind_ret, Prog.pure_eq_ret]
  iintro ⟨#HL, HO, Hf⟩ Hk
  iapply (wp_wait_own c (aS j) n k Na (lv_a j) _ (srcw := xAv c j) (dstw := aV j) (hsrc := (View.wordExact_bits rfl).reshape _ _) (hdst := (View.wordExact_bits rfl).reshape _ _) (cr_a j)) $$ [HO Hf]
  · isplitl [Hf]; · iexact Hf
    isplitr; · iexact HL
    iexact HO
  iintro H; iapply Hk; iexact H

theorem yPay_eq (j : ℕ) (g : (aV j).view.ty.Contents (Elt F)) :
    yPay (aM.view.readAt (Elt F) (rect8 j).toLoadRect ((aV j).view.write (Elt F) g (vA m c j) Finset.univ))
      = shapeCast S1x256x1024 (vY m c j) shapeCasts_S256x1024_S1x256x1024 := by
  unfold yPay vY
  rw [show shapeCast S256x1024 (aM.view.readAt (Elt F) (rect8 j).toLoadRect ((aV j).view.write (Elt F) g (vA m c j) Finset.univ)) shapeCasts_S1x256x1024_S256x1024
    = vA m c j from View.read_write_univ (v := (aV j).view) g (vA m c j)]

theorem wp_ysendTail (j k : ℕ) (hj : j < 32)
    {Φ : PUnit → sProp 𝕄} {kk : PUnit → Prog (TpuEff nD τ sig (Elt F) Λ₀ .tc) PUnit} :
    iprop(recs m ∗ owesE c (Ow c j k) ∗ semVal (cl c (.dma (aS j))) 0 ∗ own m c (aV j) fullShare (vA m c j) ∗ Yres c j ∗ Yslot c j)
      ⊢ iprop(((owesE c (Ow c (j + 1) k) ∗ Aslot (F := F) c (j + 8) ∗ Yfly c j) -∗ W c (kk ⟨⟩) Φ) -∗ W c (ysendTailP c j >>= kk) Φ) := by
  unfold ysendTailP Yres Yslot
  simp only [Prog.lift, Prog.bind_op, Prog.bind_ret, Prog.pure_eq_ret]
  iintro ⟨#HR, HO, Hsa, Ha, ⟨Ht1, Ht2, Hd⟩, Hat, Hr, Hs⟩ Hk
  ihave Hs := (Entails.of_eq (show some' (F := F) c (ysV j) = iprop(∃ f, (ysV j).view.loc (c : Thread nD τ) ↦[(ysV j).view.set]{fullShare} f) from rfl)) $$ Hs
  icases Hs with ⟨%fs, Hs⟩
  ihave Ha := (Entails.of_eq (own.eq_1 m c (aV j) fullShare (vA m c j))) $$ Ha
  iapply (wp_load_slot c aM (rect8 j) (fun _ => rfl) squeezes_S1x256x1024_S256x1024) $$ Ha
  iintro Ha
  iapply (wp_load_slot c ysM (rect8 j) (fun _ => rfl) squeezes_S1x256x1024_S256x1024) $$ Hs
  iintro Hs
  rw [yPay_eq m c j]
  iapply (wp_store_slot m c ysM (rect8 j) (fun _ => rfl) squeezes_S1x256x1024_S256x1024 shapeCasts_S1x256x1024_S256x1024 shapeCasts_S256x1024_S1x256x1024) $$ Hs
  iintro Hs
  iapply (wp_send m c (peerY c) (ysS j) (yrS j) (j / 8) (src := ysV j) (dst := yrV j) (sh := fullShare) (vY m c j)
      (by rw [ysS_val]; omega) (by rw [yrS_val]; omega) (by rw [nR_ys]; omega) (by rw [nR_yr]; omega) (Ow_y c j k hj) (cr_yr j)
      (pay_ys m c j) (by rw [pay_yr m _ j hj, peerY_peerY])) $$ [Hs Hd HO Ht1 Ht2 Hr]
  · isplitr; · iexact HR
    isplitl [Hs]; · iexact Hs
    isplitl [Hd]; · iexact Hd
    isplitl [HO]; · iexact HO
    isplitl [Ht1]; · iexact Ht1
    isplitl [Hr]; · iexact Hr
    iexact Ht2
  iintro ⟨Hc, HO⟩
  iapply Hk
  isplitl [HO]; · iexact HO
  isplitl [Hsa Ha]
  · unfold Aslot some'
    rw [show aS (j + 8) = aS j from sem8_congr _ (by omega), show aV (j + 8) = aV j from slot8_congr _ (by omega)]
    isplitl [Hsa]; · iexact Hsa
    iexists _; iexact Ha
  unfold Yfly
  isplitl [Hat]; · iexact Hat
  iexact Hc

/-- The send slot chunk `j` takes: free at first, then under the send of chunk `j - 8`. -/
def Ypre (j : ℕ) : sProp 𝕄 := if j < 8 then Yslot c j else Yfly c (j - 8)

theorem wp_ysend (j k : ℕ) (hj : j < 32)
    {Φ : PUnit → sProp 𝕄} {kk : PUnit → Prog (TpuEff nD τ sig (Elt F) Λ₀ .tc) PUnit} :
    iprop(recs m ∗ levAts L lv ∗ owesE c (Ow c j k) ∗ Afly m c j ∗ Yres c j ∗ Ypre c j)
      ⊢ iprop(((owesE c (Ow c (j + 1) k) ∗ Aslot (F := F) c (j + 8) ∗ Ypre c (j + 8)) -∗ W c (kk ⟨⟩) Φ) -∗ W c (ysendP c j >>= kk) Φ) := by
  unfold ysendP Ypre
  rw [if_neg (show ¬ j + 8 < 8 by omega), show j + 8 - 8 = j by omega]
  simp only [Prog.bind_assoc]
  by_cases h8 : j < 8
  · rw [if_pos h8, show Nat.ble 8 j = false from by rw [Bool.eq_false_iff]; intro h; have := Nat.le_of_ble_eq_true h; omega]
    simp only [cond_false, Prog.bind_ret, Prog.pure_eq_ret]
    iintro ⟨#HR, #HL, HO, Hf, Hy, Hp⟩ Hk
    iapply (wp_aWait m c j j k) $$ [HO Hf]
    · isplitr; · iexact HL
      isplitl [HO]; · iexact HO
      iexact Hf
    iintro ⟨HO, Hsa, Ha⟩
    iapply (wp_ysendTail m c j k hj) $$ [HO Hsa Ha Hy Hp]
    · isplitr; · iexact HR
      isplitl [HO]; · iexact HO
      isplitl [Hsa]; · iexact Hsa
      isplitl [Ha]; · iexact Ha
      isplitl [Hy]; · iexact Hy
      iexact Hp
    iexact Hk
  · rw [if_neg h8, show Nat.ble 8 j = true from Nat.ble_eq_true_of_le (by omega)]
    simp only [cond_true]
    have hw := fun Φ kk => wp_yWait m c (Φ := Φ) (kk := kk) (j - 8) j k (by omega)
    rw [show j - 8 + 8 = j by omega] at hw
    iintro ⟨#HR, #HL, HO, Hf, Hy, Hp⟩ Hk
    iapply (wp_aWait m c j j k) $$ [HO Hf]
    · isplitr; · iexact HL
      isplitl [HO]; · iexact HO
      iexact Hf
    iintro ⟨HO, Hsa, Ha⟩
    iapply (hw _ _) $$ [HO Hp]
    · isplitr; · iexact HR
      isplitr; · iexact HL
      isplitl [HO]; · iexact HO
      iexact Hp
    iintro ⟨HO, Hp⟩
    iapply (wp_ysendTail m c j k hj) $$ [HO Hsa Ha Hy Hp]
    · isplitr; · iexact HR
      isplitl [HO]; · iexact HO
      isplitl [Hsa]; · iexact Hsa
      isplitl [Ha]; · iexact Ha
      isplitl [Hy]; · iexact Hy
      iexact Hp
    iexact Hk

/-! ## Sums, and sends to the `x` neighbour -/

theorem own_halves (c : Dev nD) {sp : Space} {s : Shape} {e : EltTy} (v : Memref sig .tc sp s e) (w : s.Idx → Elt F e) :
    own m c v fullShare w ⊣⊢ iprop(own m c v fullShare.left w ∗ own m c v fullShare.right w) :=
  pointsTo_share (PosShare.mem_left_op_right fullShare)

/-- The send slot chunk `j + 4` takes next, with the finished rows of chunk `j`. -/
theorem wp_xWait (j n k : ℕ) (hj : j < 32) {Φ : PUnit → sProp 𝕄} {kk : PUnit → Prog (TpuEff nD τ sig (Elt F) Λ₀ .tc) PUnit} :
    iprop(recs m ∗ levAts L lv ∗ owesE c (Ow c n k) ∗ Xfly m c j)
      ⊢ iprop(((owesE c (Ow c n k) ∗ Xslot (F := F) c (j + 4) ∗ OutA m c j) -∗ W c (kk ⟨⟩) Φ) -∗ W c (xWaitP c j >>= kk) Φ) := by
  unfold xWaitP Xfly Xslot OutA
  simp only [Prog.lift, Prog.bind_op, Prog.bind_ret, Prog.pure_eq_ret]
  rw [show xsC c (j + 4) = xsC c j from congrArg (fun q => cl c (.dma q)) (sem4_congr _ (by omega)), show stS (j + 4) = stS j from sem4_congr _ (by omega),
    show (j + 4) / 4 = j / 4 + 1 by omega, show xsV (j + 4) = xsV j from slot4_congr _ (by omega)]
  iintro ⟨#HR, #HL, HO, Hf, Hat, Hc⟩ Hk
  iapply (wp_wait_own c (stS j) n k Nb (lv_st j) _ (srcw := xsV j) (dstw := outAv c j) (hsrc := words4_xs j) (hdst := words_outA c j) (cr_oa c j)) $$ [HO Hf]
  · isplitl [Hf]; · iexact Hf
    isplitr; · iexact HL
    iexact HO
  iintro ⟨HO, Hst, Ho, Hl⟩
  iapply (wp_wait_cell m c (xsS j) (j / 4) n k (by rw [xsS_val]; omega) (by rw [nR_xs]; omega) (by rw [lv_xs]; omega) (by rw [lv_xs]; omega)
    (srcw := xrV j) (dstw := xsV j) (hsrc := words_xr j) (hdst := words4_xs j) (cr_xs j)) $$ [HO Hat Hc]
  · isplitr; · iexact HR
    isplitr; · iexact HL
    isplitl [Hc]; · iexact Hc
    isplitl [HO]; · iexact HO
    iexact Hat
  iintro ⟨HO, Hat, Hr, Hp⟩
  ihave Hp := (Entails.of_eq (pay_xs m c j)) $$ Hp
  ihave Hp := ((own_halves m c (xsV j) (vS m c j)).2.trans (own_some m c _ _)) $$ [Hl Hp]
  · isplitl [Hl]; · iexact Hl
    iexact Hp
  iapply Hk
  isplitl [HO]; · iexact HO
  isplitr [Ho]
  · isplitl [Hst]; · iexact Hst
    isplitl [Hat]; · iexact Hat
    isplitl [Hr]; · iexact Hr
    iexact Hp
  iexact Ho

/-- The two arrivals a sum needs. -/
theorem wp_recv (j n : ℕ) (hj : j < 32) (hn : j < n) {Φ : PUnit → sProp 𝕄} {kk : PUnit → Prog (TpuEff nD τ sig (Elt F) Λ₀ .tc) PUnit} :
    iprop(recs m ∗ levAts L lv ∗ owesE c (Ow c n j) ∗ atPos ER (yrC c j) 0 ∅ 0 ∗ cred (tallyAt (yrC c j) () Nb) ∗ Bfly m c j)
      ⊢ iprop(((owesE c (Ow c n j) ∗ semVal (yrC c j) 0 ∗ own m c (yrV j) fullShare (vY m (peerY c) j) ∗ semVal (cl c (.dma (bS j))) 0 ∗ own m c (bV j) fullShare (vB m c j))
          -∗ W c (kk ⟨⟩) Φ) -∗ W c (recvP c j >>= kk) Φ) := by
  unfold recvP Bfly
  simp only [Prog.lift, Prog.bind_op, Prog.bind_ret, Prog.pure_eq_ret]
  iintro ⟨#HR, #HL, HO, Hat, Hc, Hf⟩ Hk
  iapply (wp_wait_cell m c (yrS j) 0 n j (by rw [yrS_val]; omega) (by rw [nR_yr]; omega) (by rw [lv_yr j hj]; omega) (by rw [lv_yr j hj]; omega)
    (srcw := ysV j) (dstw := yrV j) (hsrc := words8_ys j) (hdst := words_yr j) (cr_yr j)) $$ [HO Hat Hc]
  · isplitr; · iexact HR
    isplitr; · iexact HL
    isplitl [Hc]; · iexact Hc
    isplitl [HO]; · iexact HO
    iexact Hat
  iintro ⟨HO, Hat, -, Hp⟩
  ihave Hp := (Entails.of_eq (pay_yr m c j hj)) $$ Hp
  imod (cell_done m c (yrS j) (by rw [yrS_val]; omega) (0 + 1) (by rw [nR_yr])) $$ [Hat] with Hz
  · isplitr; · iexact HR
    iexact Hat
  iapply (wp_wait_own c (bS j) n j Na (lv_b j) _ (srcw := xBv c j) (dstw := bV j) (hsrc := (View.wordExact_bits rfl).reshape _ _) (hdst := (View.wordExact_bits rfl).reshape _ _) (cr_b j)) $$ [HO Hf]
  · isplitl [Hf]; · iexact Hf
    isplitr; · iexact HL
    iexact HO
  iintro ⟨HO, Hs, Hb⟩
  iapply Hk
  isplitl [HO]; · iexact HO
  isplitl [Hz]; · iexact Hz
  isplitl [Hp]; · iexact Hp
  isplitl [Hs]; · iexact Hs
  iexact Hb

theorem xPay_eq (j : ℕ) (g : (bV j).view.ty.Contents (Elt F)) (g' : (yrV j).view.ty.Contents (Elt F)) :
    xPay (bM.view.readAt (Elt F) (rect8 j).toLoadRect ((bV j).view.write (Elt F) g (vB m c j) Finset.univ))
        (yrM.view.readAt (Elt F) (rectRow j).toLoadRect ((yrV j).view.write (Elt F) g' (vY m (peerY c) j) Finset.univ))
      = shapeCast S1x256x1024 (vS m c j) shapeCasts_S256x1024_S1x256x1024 := by
  unfold xPay vS
  rw [show shapeCast S256x1024 (bM.view.readAt (Elt F) (rect8 j).toLoadRect ((bV j).view.write (Elt F) g (vB m c j) Finset.univ)) shapeCasts_S1x256x1024_S256x1024
    = vB m c j from View.read_write_univ (v := (bV j).view) g (vB m c j),
    show yrM.view.readAt (Elt F) (rectRow j).toLoadRect ((yrV j).view.write (Elt F) g' (vY m (peerY c) j) Finset.univ) = vY m (peerY c) j from
      View.read_write_univ (v := (yrV j).view) g' (vY m (peerY c) j)]

/-- A load of the rows of a chunk. -/
theorem wp_load_rows {s : Shape} {e : EltTy} (M : Memref sig .tc .vmem s e) (r : Rect s) (hr : ∀ a, r.stride a = 1) {q : PosShare TreeShare}
    {f : Buf (Elt F) (M.view.loc (c : Thread nD τ))} {hl : M.view.LoadsAt r.toLoadRect}
    {k : (r.toLoadRect.shape.Idx → Elt F e) → Prog (TpuEff nD τ sig (Elt F) Λ₀ .tc) PUnit} {Φ : PUnit → sProp 𝕄} :
    (M.view.loc (c : Thread nD τ) ↦[(M.slice r hr).view.set]{q} f : sProp 𝕄)
      ⊢ iprop(((M.view.loc (c : Thread nD τ) ↦[(M.slice r hr).view.set]{q} f) -∗ W c (k (M.view.readAt (Elt F) r.toLoadRect f)) Φ)
        -∗ W c (.op (.load M r.toLoadRect hl) k) Φ) :=
  wp_load (m := M) 𝒱₀ (c : Thread nD τ) none Set.univ (by rw [show (M.slice r hr).view.set = (M.access r).set from rfl, View.set_slice]; exact Finset.Subset.refl _)

theorem wp_sum (j n : ℕ) (hj : j < 32) {Φ : PUnit → sProp 𝕄} {kk : PUnit → Prog (TpuEff nD τ sig (Elt F) Λ₀ .tc) PUnit} :
    iprop(recs m ∗ owesE c (Ow c n j) ∗ own m c (yrV j) fullShare (vY m (peerY c) j) ∗ semVal (cl c (.dma (bS j))) 0 ∗ own m c (bV j) fullShare (vB m c j)
        ∗ dutyTok ER (xsC c j) (j / 4) false ∗ dutyTok ER (xrC (peerX c) j) 0 false ∗ some' (peerX c) (xrV j) ∗ some' c (outAv c j) ∗ Xslot c j)
      ⊢ iprop(((owesE c (Ow c n (j + 1)) ∗ some' (F := F) c (yrV j) ∗ Bslot (F := F) c (j + 8) ∗ Xfly m c j) -∗ W c (kk ⟨⟩) Φ) -∗ W c (sumP c j >>= kk) Φ) := by
  unfold sumP Xslot Bslot Xfly
  rw [show bS (j + 8) = bS j from sem8_congr _ (by omega), show bV (j + 8) = bV j from slot8_congr _ (by omega)]
  simp only [Prog.lift, Prog.bind_op, Prog.bind_ret, Prog.pure_eq_ret]
  iintro ⟨#HR, HO, Hy, Hsb, Hb, Ht1, Ht2, Hd, Ho, Hst, Hat, Hr, Hs⟩ Hk
  ihave Hs := (Entails.of_eq (show some' (F := F) c (xsV j) = iprop(∃ f, (xsV j).view.loc (c : Thread nD τ) ↦[(xsV j).view.set]{fullShare} f) from rfl)) $$ Hs
  icases Hs with ⟨%fs, Hs⟩
  ihave Hb := (Entails.of_eq (own.eq_1 m c (bV j) fullShare (vB m c j))) $$ Hb
  ihave Hy := (Entails.of_eq (own.eq_1 m c (yrV j) fullShare (vY m (peerY c) j))) $$ Hy
  iapply (wp_load_slot c bM (rect8 j) (fun _ => rfl) squeezes_S1x256x1024_S256x1024) $$ Hb
  iintro Hb
  iapply (wp_load_rows c yrM (rectRow j) (fun _ => rfl)) $$ Hy
  iintro Hy
  iapply (wp_load_slot c xsM (rect4 j) (fun _ => rfl) squeezes_S1x256x1024_S256x1024) $$ Hs
  iintro Hs
  rw [xPay_eq m c j]
  iapply (wp_store_slot m c xsM (rect4 j) (fun _ => rfl) squeezes_S1x256x1024_S256x1024 shapeCasts_S1x256x1024_S256x1024 shapeCasts_S256x1024_S1x256x1024) $$ Hs
  iintro Hs
  ihave Hs := (own_halves m c (xsV j) (vS m c j)).1 $$ Hs
  icases Hs with ⟨Hl, Hrt⟩
  iapply (wp_copy_own m c (stS j) Nb (src := xsV j) (dst := outAv c j) (vS m c j) (cr_oa c j) Nb_pos) $$ [Hl Ho Hst]
  · isplitl [Hl]; · iexact Hl
    isplitl [Ho]; · iexact Ho
    iexact Hst
  iintro Hf
  iapply (wp_send m c (peerX c) (xsS j) (xrS j) (j / 4) (src := xsV j) (dst := xrV j) (sh := fullShare.right) (vS m c j)
      (by rw [xsS_val]; omega) (by rw [xrS_val]; omega) (by rw [nR_xs]; omega) (by rw [nR_xr]; omega) (Ow_x c n j hj) (cr_xr j)
      (pay_xs m c j) (by rw [pay_xr m _ j hj, peerX_peerX])) $$ [Hrt Hd HO Ht1 Ht2 Hr]
  · isplitr; · iexact HR
    isplitl [Hrt]; · iexact Hrt
    isplitl [Hd]; · iexact Hd
    isplitl [HO]; · iexact HO
    isplitl [Ht1]; · iexact Ht1
    isplitl [Hr]; · iexact Hr
    iexact Ht2
  iintro ⟨Hc, HO⟩
  iapply Hk
  isplitl [HO]; · iexact HO
  isplitl [Hy]
  · unfold some'; iexists _; iexact Hy
  isplitl [Hsb Hb]
  · isplitl [Hsb]; · iexact Hsb
    unfold some'; iexists _; iexact Hb
  isplitl [Hf]
  · iexact Hf
  isplitl [Hat]; · iexact Hat
  iexact Hc

/-- The send slot chunk `j` takes: free at first, then under the copies of chunk `j - 4`. -/
def Xpre (j : ℕ) : sProp 𝕄 := if j < 4 then Xslot c j else Xfly m c (j - 4)
/-- The rows of the result finished when chunk `j` takes its slot. -/
def OutA' (j : ℕ) : sProp 𝕄 := if j < 4 then iprop(emp) else OutA m c (j - 4)

theorem wp_main (j n : ℕ) (hj : j < 32) (hn : j < n) {Φ : PUnit → sProp 𝕄} {kk : PUnit → Prog (TpuEff nD τ sig (Elt F) Λ₀ .tc) PUnit} :
    iprop(recs m ∗ levAts L lv ∗ owesE c (Ow c n j) ∗ Bfly m c j ∗ Mres c j ∗ Xpre m c j)
      ⊢ iprop(((owesE c (Ow c n (j + 1)) ∗ Bslot (F := F) c (j + 8) ∗ Xpre m c (j + 4) ∗ Yrcv c j ∗ OutA' m c j) -∗ W c (kk ⟨⟩) Φ) -∗ W c (mainP c j >>= kk) Φ) := by
  unfold mainP Xpre Mres Yrcv OutA'
  rw [if_neg (show ¬ j + 4 < 4 by omega), show j + 4 - 4 = j by omega]
  simp only [Prog.bind_assoc]
  by_cases h4 : j < 4
  · rw [if_pos h4, if_pos h4, show Nat.ble 4 j = false from by rw [Bool.eq_false_iff]; intro h; have := Nat.le_of_ble_eq_true h; omega]
    simp only [cond_false, Prog.bind_ret, Prog.pure_eq_ret]
    iintro ⟨#HR, #HL, HO, Hf, ⟨Hat, Hc, Ht1, Ht2, Hd, Ho⟩, Hp⟩ Hk
    iapply (wp_recv m c j n hj hn) $$ [HO Hat Hc Hf]
    · isplitr; · iexact HR
      isplitr; · iexact HL
      isplitl [HO]; · iexact HO
      isplitl [Hat]; · iexact Hat
      isplitl [Hc]; · iexact Hc
      iexact Hf
    iintro ⟨HO, Hz, Hy, Hsb, Hb⟩
    iapply (wp_sum m c j n hj) $$ [HO Hy Hsb Hb Ht1 Ht2 Hd Ho Hp]
    · isplitr; · iexact HR
      isplitl [HO]; · iexact HO
      isplitl [Hy]; · iexact Hy
      isplitl [Hsb]; · iexact Hsb
      isplitl [Hb]; · iexact Hb
      isplitl [Ht1]; · iexact Ht1
      isplitl [Ht2]; · iexact Ht2
      isplitl [Hd]; · iexact Hd
      isplitl [Ho]; · iexact Ho
      iexact Hp
    iintro ⟨HO, Hy, Hb, Hx⟩
    iapply Hk
    isplitl [HO]; · iexact HO
    isplitl [Hb]; · iexact Hb
    isplitl [Hx]; · iexact Hx
    isplitl [Hz Hy]
    · isplitl [Hz]; · iexact Hz
      iexact Hy
    iempintro
  · rw [if_neg h4, if_neg h4, show Nat.ble 4 j = true from Nat.ble_eq_true_of_le (by omega)]
    simp only [cond_true]
    have hw := fun Φ kk => wp_xWait m c (Φ := Φ) (kk := kk) (j - 4) n j (by omega)
    rw [show j - 4 + 4 = j by omega] at hw
    iintro ⟨#HR, #HL, HO, Hf, ⟨Hat, Hc, Ht1, Ht2, Hd, Ho⟩, Hp⟩ Hk
    iapply (wp_recv m c j n hj hn) $$ [HO Hat Hc Hf]
    · isplitr; · iexact HR
      isplitr; · iexact HL
      isplitl [HO]; · iexact HO
      isplitl [Hat]; · iexact Hat
      isplitl [Hc]; · iexact Hc
      iexact Hf
    iintro ⟨HO, Hz, Hy, Hsb, Hb⟩
    iapply (hw _ _) $$ [HO Hp]
    · isplitr; · iexact HR
      isplitr; · iexact HL
      isplitl [HO]; · iexact HO
      iexact Hp
    iintro ⟨HO, Hp, HA⟩
    iapply (wp_sum m c j n hj) $$ [HO Hy Hsb Hb Ht1 Ht2 Hd Ho Hp]
    · isplitr; · iexact HR
      isplitl [HO]; · iexact HO
      isplitl [Hy]; · iexact Hy
      isplitl [Hsb]; · iexact Hsb
      isplitl [Hb]; · iexact Hb
      isplitl [Ht1]; · iexact Ht1
      isplitl [Ht2]; · iexact Ht2
      isplitl [Hd]; · iexact Hd
      isplitl [Ho]; · iexact Ho
      iexact Hp
    iintro ⟨HO, Hy, Hb, Hx⟩
    iapply Hk
    isplitl [HO]; · iexact HO
    isplitl [Hb]; · iexact Hb
    isplitl [Hx]; · iexact Hx
    isplitl [Hz Hy]
    · isplitl [Hz]; · iexact Hz
      iexact Hy
    iexact HA

/-! ## Drains -/

theorem wp_tWait (j n k : ℕ) {Φ : PUnit → sProp 𝕄} {kk : PUnit → Prog (TpuEff nD τ sig (Elt F) Λ₀ .tc) PUnit} :
    iprop(levAts L lv ∗ owesE c (Ow c n k) ∗ Tfly m c j)
      ⊢ iprop(((owesE c (Ow c n k) ∗ Tslot (F := F) c (j + 4) ∗ OutB m c j) -∗ W c (kk ⟨⟩) Φ) -∗ W c (tWaitP c j >>= kk) Φ) := by
  unfold tWaitP Tfly Tslot OutB
  rw [show xtS (j + 4) = xtS j from sem4_congr _ (by omega)]
  simp only [Prog.lift, Prog.bind_op, Prog.bind_ret, Prog.pure_eq_ret]
  iintro ⟨#HL, HO, Hf⟩ Hk
  iapply (wp_wait_own c (xtS j) n k Nb (lv_xt j) _ (srcw := xrV j) (dstw := outBv c j) (hsrc := words_xr j) (hdst := words_outB c j) (cr_ob c j)) $$ [HO Hf]
  · isplitl [Hf]; · iexact Hf
    isplitr; · iexact HL
    iexact HO
  iintro H
  iapply Hk
  iexact H

/-- The copy of a received chunk to the result. -/
def tailP (d : Dev nD) (k : ℕ) : Prog (TpuEff nD τ sig (Elt F) Λ₀ .tc) PUnit :=
  Prog.lift (.enqueueDma (xrV k) (.here (outBv d k)) (.dma (xtS k)) (words_xr k) (words_outB d k) ⟨Or.inl rfl, trivial⟩)

theorem wp_tail (j : ℕ) {Φ : PUnit → sProp 𝕄} {kk : PUnit → Prog (TpuEff nD τ sig (Elt F) Λ₀ .tc) PUnit} :
    iprop(own m c (xrV j) fullShare (vS m (peerX c) j) ∗ some' c (outBv c j) ∗ Tslot c j)
      ⊢ iprop((Tfly m c j -∗ W c (kk ⟨⟩) Φ) -∗ W c (tailP c j >>= kk) Φ) := by
  unfold tailP Tslot Tfly
  simp only [Prog.lift, Prog.bind_op, Prog.bind_ret, Prog.pure_eq_ret]
  iintro ⟨Hx, Ho, Ht⟩ Hk
  iapply (wp_copy_own m c (xtS j) Nb (src := xrV j) (dst := outBv c j) (vS m (peerX c) j) (cr_ob c j) Nb_pos) $$ [Hx Ho Ht]
  · isplitl [Hx]; · iexact Hx
    isplitl [Ho]; · iexact Ho
    iexact Ht
  iintro Hf
  iapply Hk
  iexact Hf

/-- The semaphore chunk `j` drains on: free at first, then under the copy of chunk `j - 4`. -/
def Tpre (j : ℕ) : sProp 𝕄 := if j < 4 then Tslot c j else Tfly m c (j - 4)
def OutB' (j : ℕ) : sProp 𝕄 := if j < 4 then iprop(emp) else OutB m c (j - 4)

theorem wp_drain (j n k : ℕ) (hj : j < 32) (hn : j < n) (hk : j < k) {Φ : PUnit → sProp 𝕄} {kk : PUnit → Prog (TpuEff nD τ sig (Elt F) Λ₀ .tc) PUnit} :
    iprop(recs m ∗ levAts L lv ∗ owesE c (Ow c n k) ∗ Dres c j ∗ Tpre m c j)
      ⊢ iprop(((owesE c (Ow c n k) ∗ Tpre m c (j + 4) ∗ Xrcv c j ∗ OutB' m c j) -∗ W c (kk ⟨⟩) Φ) -∗ W c (drainP c j >>= kk) Φ) := by
  have hd : (drainP c j : Prog (TpuEff nD τ sig (Elt F) Λ₀ .tc) PUnit) = (do
      Prog.lift (.waitDma2 (xrS j) (xsV j) (xrV j) (words4_xs j) (words_xr j))
      bif Nat.ble 4 j then tWaitP c (j - 4) else pure ⟨⟩
      tailP c j) := rfl
  rw [hd]
  unfold Tpre Dres Xrcv OutB'
  rw [if_neg (show ¬ j + 4 < 4 by omega), show j + 4 - 4 = j by omega]
  simp only [Prog.bind_assoc]
  by_cases h4 : j < 4
  · rw [if_pos h4, if_pos h4, show Nat.ble 4 j = false from by rw [Bool.eq_false_iff]; intro h; have := Nat.le_of_ble_eq_true h; omega]
    simp only [cond_false, Prog.lift, Prog.bind_op, Prog.bind_ret, Prog.pure_eq_ret]
    iintro ⟨#HR, #HL, HO, ⟨Hat, Hc, Ho⟩, Hp⟩ Hk
    iapply (wp_wait_cell m c (xrS j) 0 n k (by rw [xrS_val]; omega) (by rw [nR_xr]; omega) (by rw [lv_xr j hj]; omega) (by rw [lv_xr j hj]; omega)
      (srcw := xsV j) (dstw := xrV j) (hsrc := words4_xs j) (hdst := words_xr j) (cr_xr j)) $$ [HO Hat Hc]
    · isplitr; · iexact HR
      isplitr; · iexact HL
      isplitl [Hc]; · iexact Hc
      isplitl [HO]; · iexact HO
      iexact Hat
    iintro ⟨HO, Hat, -, Hx⟩
    ihave Hx := (Entails.of_eq (pay_xr m c j hj)) $$ Hx
    imod (cell_done m c (xrS j) (by rw [xrS_val]; omega) (0 + 1) (by rw [nR_xr])) $$ [Hat] with Hz
    · isplitr; · iexact HR
      iexact Hat
    iapply (wp_tail m c j) $$ [Hx Ho Hp]
    · isplitl [Hx]; · iexact Hx
      isplitl [Ho]; · iexact Ho
      iexact Hp
    iintro Hf
    iapply Hk
    isplitl [HO]; · iexact HO
    isplitl [Hf]; · iexact Hf
    isplitl [Hz]; · iexact Hz
    iempintro
  · rw [if_neg h4, if_neg h4, show Nat.ble 4 j = true from Nat.ble_eq_true_of_le (by omega)]
    simp only [cond_true, Prog.lift, Prog.bind_op, Prog.bind_ret, Prog.pure_eq_ret]
    have hw := fun Φ kk => wp_tWait m c (Φ := Φ) (kk := kk) (j - 4) n k
    rw [show j - 4 + 4 = j by omega] at hw
    iintro ⟨#HR, #HL, HO, ⟨Hat, Hc, Ho⟩, Hp⟩ Hk
    iapply (wp_wait_cell m c (xrS j) 0 n k (by rw [xrS_val]; omega) (by rw [nR_xr]; omega) (by rw [lv_xr j hj]; omega) (by rw [lv_xr j hj]; omega)
      (srcw := xsV j) (dstw := xrV j) (hsrc := words4_xs j) (hdst := words_xr j) (cr_xr j)) $$ [HO Hat Hc]
    · isplitr; · iexact HR
      isplitr; · iexact HL
      isplitl [Hc]; · iexact Hc
      isplitl [HO]; · iexact HO
      iexact Hat
    iintro ⟨HO, Hat, -, Hx⟩
    ihave Hx := (Entails.of_eq (pay_xr m c j hj)) $$ Hx
    imod (cell_done m c (xrS j) (by rw [xrS_val]; omega) (0 + 1) (by rw [nR_xr])) $$ [Hat] with Hz
    · isplitr; · iexact HR
      iexact Hat
    iapply (hw _ _) $$ [HO Hp]
    · isplitr; · iexact HL
      isplitl [HO]; · iexact HO
      iexact Hp
    iintro ⟨HO, Hp, HB⟩
    iapply (wp_tail m c j) $$ [Hx Ho Hp]
    · isplitl [Hx]; · iexact Hx
      isplitl [Ho]; · iexact Ho
      iexact Hp
    iintro Hf
    iapply Hk
    isplitl [HO]; · iexact HO
    isplitl [Hf]; · iexact Hf
    isplitl [Hz]; · iexact Hz
    iexact HB

end Cert.KernelIdeal.Prf

end
-- ==== Proof.Inv.lean ====
module

public import proofs.«01_k».proof.Proof.Blocks

/-! The state a device is in between two blocks, how each block moves it, and the run of the whole list of blocks. -/

@[expose] public section

noncomputable section

namespace Cert.KernelIdeal.Prf

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (c : Dev nD)

/-! ## Families over an interval -/

/-- The members from `a` to `b`. -/
abbrev S (a b : ℕ) (Φ : ℕ → sProp 𝕄) : sProp 𝕄 := bigSep (Finset.Ico a b) Φ

theorem S_take {a b : ℕ} (h : a < b) (Φ : ℕ → sProp 𝕄) : S a b Φ = iprop(Φ a ∗ S (a + 1) b Φ) := by
  unfold S; rw [Ico_cons h, bigSep_insert (by simp)]; rfl

theorem S_add {a b : ℕ} (h : a ≤ b) (Φ : ℕ → sProp 𝕄) : S a (b + 1) Φ = iprop(Φ b ∗ S a b Φ) := by
  unfold S
  rw [show Finset.Ico a (b + 1) = insert b (Finset.Ico a b) by ext x; simp only [Finset.mem_insert, Finset.mem_Ico]; omega, bigSep_insert (by simp)]; rfl

theorem S_nil {a b : ℕ} (h : b ≤ a) (Φ : ℕ → sProp 𝕄) : S a b Φ = (BI.emp : sProp 𝕄) := by
  unfold S; rw [Finset.Ico_eq_empty (by omega), bigSep_empty]

theorem S_mono {a b : ℕ} {Φ Ψ : ℕ → sProp 𝕄} (h : ∀ j, a ≤ j → j < b → Φ j ⊢ Ψ j) : S a b Φ ⊢ S a b Ψ :=
  bigSep_mono fun j hj => h j (Finset.mem_Ico.mp hj).1 (Finset.mem_Ico.mp hj).2

theorem S_shift (t a n : ℕ) (Φ : ℕ → sProp 𝕄) : S (a + t) (a + t + n) Φ = S a (a + n) (fun j => Φ (j + t)) := by
  induction n with
  | zero => rw [S_nil (by omega), S_nil (by omega)]
  | succ n ih => rw [show a + t + (n + 1) = a + t + n + 1 by omega, show a + (n + 1) = a + n + 1 by omega, S_add (by omega), S_add (by omega), ih,
      show a + t + n = a + n + t by omega]

/-! ## The state between blocks -/

/-- How many chunks are loaded, sent to the `y` neighbour, summed, and copied from the `x` neighbour. -/
structure St where
  l : ℕ
  n : ℕ
  k : ℕ
  d : ℕ
  deriving DecidableEq

/-- The copies from `x`: chunks not yet loaded, free slots, copies under way. -/
def LInv (s : St) : sProp 𝕄 :=
  iprop(S s.l 32 (Lres m c) ∗ S s.l (s.n + 8) (Aslot c) ∗ S s.l (s.k + 8) (Bslot c) ∗ S s.n s.l (Afly m c) ∗ S s.k s.l (Bfly m c))

/-- The rest. -/
def RInv (s : St) : sProp 𝕄 :=
  iprop(S s.n 32 (Yres c) ∗ S s.n (s.n + 8) (Ypre c)
    ∗ S s.k 32 (Mres c) ∗ S s.k (s.k + 4) (Xpre m c) ∗ S 0 s.k (Yrcv c) ∗ S 0 (s.k - 4) (OutA m c)
    ∗ S s.d 32 (Dres c) ∗ S s.d (s.d + 4) (Tpre m c) ∗ S 0 s.d (Xrcv c) ∗ S 0 (s.d - 4) (OutB m c))

/-- Where a block takes the state, if it may run there. -/
def step : Blk → St → Option St
  | .loads j, s => if j = s.l ∧ s.l < 32 ∧ s.l < s.n + 8 ∧ s.l < s.k + 8 ∧ s.n ≤ s.l ∧ s.k ≤ s.l then some { s with l := s.l + 1 } else none
  | .ysend j, s => if j = s.n ∧ s.n < s.l ∧ s.n < 32 ∧ s.l ≤ s.n + 8 then some { s with n := s.n + 1 } else none
  | .main j, s => if j = s.k ∧ s.k < s.l ∧ s.k < 32 ∧ s.k < s.n ∧ s.l ≤ s.k + 8 then some { s with k := s.k + 1 } else none
  | .drain j, s => if j = s.d ∧ s.d < s.k ∧ s.d < s.n ∧ s.d < 32 then some { s with d := s.d + 1 } else none
  | _, _ => none

def steps : List Blk → St → Option St
  | [], s => some s
  | b :: bs, s => (step b s).bind (steps bs)

section Steps
variable {Φ : PUnit → sProp (MT nD τ sig Unit (Elt F) ℕ UU ℕ)} {kk : PUnit → Prog (TpuEff nD τ sig (Elt F) Λ₀ .tc) PUnit}

theorem wp_step_loads (s : St) (h1 : s.l < 32) (h2 : s.l < s.n + 8) (h3 : s.l < s.k + 8) (h4 : s.n ≤ s.l) (h5 : s.k ≤ s.l)
    {Φ : PUnit → sProp 𝕄} {kk : PUnit → Prog (TpuEff nD τ sig (Elt F) Λ₀ .tc) PUnit} :
    LInv m c s ⊢ iprop((LInv m c { s with l := s.l + 1 } -∗ W c (kk ⟨⟩) Φ) -∗ W c (loadsP c s.l >>= kk) Φ) := by
  unfold LInv
  dsimp only
  rw [S_take h1, S_take h2, S_take h3, S_add h4, S_add h5]
  iintro ⟨⟨HL, HLs⟩, ⟨HA, HAs⟩, ⟨HB, HBs⟩, HAf, HBf⟩ Hk
  iapply (wp_loads m c s.l) $$ [HL HA HB]
  · isplitl [HL]; · iexact HL
    isplitl [HA]; · iexact HA
    iexact HB
  iintro ⟨HA, HB⟩
  iapply Hk
  isplitl [HLs]; · iexact HLs
  isplitl [HAs]; · iexact HAs
  isplitl [HBs]; · iexact HBs
  isplitl [HA HAf]
  · isplitl [HA]; · iexact HA
    iexact HAf
  isplitl [HB]; · iexact HB
  iexact HBf

/-- All the state. -/
def Inv (s : St) : sProp 𝕄 := iprop(owesE c (Ow c s.n s.k) ∗ LInv m c s ∗ RInv m c s)

theorem outA_add (k : ℕ) : iprop(S 0 (k - 4) (OutA m c) ∗ OutA' m c k) ⊢ S 0 (k + 1 - 4) (OutA m c) := by
  unfold OutA'
  by_cases h : k < 4
  · rw [if_pos h, show k + 1 - 4 = k - 4 by omega]; exact sep_elim_left
  · rw [if_neg h, show k + 1 - 4 = (k - 4) + 1 by omega, S_add (by omega)]; exact sep_comm.1
theorem outB_add (k : ℕ) : iprop(S 0 (k - 4) (OutB m c) ∗ OutB' m c k) ⊢ S 0 (k + 1 - 4) (OutB m c) := by
  unfold OutB'
  by_cases h : k < 4
  · rw [if_pos h, show k + 1 - 4 = k - 4 by omega]; exact sep_elim_left
  · rw [if_neg h, show k + 1 - 4 = (k - 4) + 1 by omega, S_add (by omega)]; exact sep_comm.1

theorem wp_step_ysend (s : St) (h1 : s.n < s.l) (h2 : s.n < 32) (h3 : s.l ≤ s.n + 8)
    {Φ : PUnit → sProp 𝕄} {kk : PUnit → Prog (TpuEff nD τ sig (Elt F) Λ₀ .tc) PUnit} :
    iprop(recs m ∗ levAts L lv ∗ Inv m c s) ⊢ iprop((Inv m c { s with n := s.n + 1 } -∗ W c (kk ⟨⟩) Φ) -∗ W c (ysendP c s.n >>= kk) Φ) := by
  unfold Inv LInv RInv
  dsimp only
  rw [S_take h1, S_take h2, S_take (show s.n < s.n + 8 by omega), show s.n + 1 + 8 = s.n + 8 + 1 by omega, S_add h3, S_add (show s.n + 1 ≤ s.n + 8 by omega)]
  iintro ⟨#HR, #HL, HO, ⟨HLs, HAs, HBs, ⟨HA, HAf⟩, HBf⟩, ⟨HY, HYs⟩, ⟨HP, HPs⟩, HM⟩ Hk
  iapply (wp_ysend m c s.n s.k h2) $$ [HO HA HY HP]
  · isplitr; · iexact HR
    isplitr; · iexact HL
    isplitl [HO]; · iexact HO
    isplitl [HA]; · iexact HA
    isplitl [HY]; · iexact HY
    iexact HP
  iintro ⟨HO, HA, HP⟩
  iapply Hk
  isplitl [HO]; · iexact HO
  isplitl [HLs HAs HBs HA HAf HBf]
  · isplitl [HLs]; · iexact HLs
    isplitl [HA HAs]
    · isplitl [HA]; · iexact HA
      iexact HAs
    isplitl [HBs]; · iexact HBs
    isplitl [HAf]; · iexact HAf
    iexact HBf
  isplitl [HYs]; · iexact HYs
  isplitl [HP HPs]
  · isplitl [HP]; · iexact HP
    iexact HPs
  iexact HM

theorem wp_step_main (s : St) (h1 : s.k < s.l) (h2 : s.k < 32) (h3 : s.k < s.n) (h4 : s.l ≤ s.k + 8)
    {Φ : PUnit → sProp 𝕄} {kk : PUnit → Prog (TpuEff nD τ sig (Elt F) Λ₀ .tc) PUnit} :
    iprop(recs m ∗ levAts L lv ∗ Inv m c s) ⊢ iprop((Inv m c { s with k := s.k + 1 } -∗ W c (kk ⟨⟩) Φ) -∗ W c (mainP c s.k >>= kk) Φ) := by
  unfold Inv LInv RInv
  dsimp only
  rw [S_take h1, S_take h2, S_take (show s.k < s.k + 4 by omega), show s.k + 1 + 8 = s.k + 8 + 1 by omega, show s.k + 1 + 4 = s.k + 4 + 1 by omega, S_add h4,
    S_add (show s.k + 1 ≤ s.k + 4 by omega), S_add (Nat.zero_le s.k)]
  iintro ⟨#HR, #HL, HO, ⟨HLs, HAs, HBs, HAf, ⟨HB, HBf⟩⟩, HYs, HPs, ⟨HM, HMs⟩, ⟨HX, HXs⟩, HYr, HOA, HD⟩ Hk
  iapply (wp_main m c s.k s.n h2 h3) $$ [HO HB HM HX]
  · isplitr; · iexact HR
    isplitr; · iexact HL
    isplitl [HO]; · iexact HO
    isplitl [HB]; · iexact HB
    isplitl [HM]; · iexact HM
    iexact HX
  iintro ⟨HO, HB, HX, HY, HA⟩
  ihave HOA := (outA_add m c s.k) $$ [HOA HA]
  · isplitl [HOA]; · iexact HOA
    iexact HA
  iapply Hk
  isplitl [HO]; · iexact HO
  isplitl [HLs HAs HBs HB HAf HBf]
  · isplitl [HLs]; · iexact HLs
    isplitl [HAs]; · iexact HAs
    isplitl [HB HBs]
    · isplitl [HB]; · iexact HB
      iexact HBs
    isplitl [HAf]; · iexact HAf
    iexact HBf
  isplitl [HYs]; · iexact HYs
  isplitl [HPs]; · iexact HPs
  isplitl [HMs]; · iexact HMs
  isplitl [HX HXs]
  · isplitl [HX]; · iexact HX
    iexact HXs
  isplitl [HY HYr]
  · isplitl [HY]; · iexact HY
    iexact HYr
  isplitl [HOA]; · iexact HOA
  iexact HD

theorem wp_step_drain (s : St) (h1 : s.d < s.k) (h2 : s.d < s.n) (h3 : s.d < 32)
    {Φ : PUnit → sProp 𝕄} {kk : PUnit → Prog (TpuEff nD τ sig (Elt F) Λ₀ .tc) PUnit} :
    iprop(recs m ∗ levAts L lv ∗ Inv m c s) ⊢ iprop((Inv m c { s with d := s.d + 1 } -∗ W c (kk ⟨⟩) Φ) -∗ W c (drainP c s.d >>= kk) Φ) := by
  unfold Inv LInv RInv
  dsimp only
  rw [S_take h3, S_take (show s.d < s.d + 4 by omega), show s.d + 1 + 4 = s.d + 4 + 1 by omega,
    S_add (show s.d + 1 ≤ s.d + 4 by omega), S_add (Nat.zero_le s.d)]
  iintro ⟨#HR, #HL, HO, HLI, HYs, HPs, HMs, HXs, HYr, HOA, ⟨HD, HDs⟩, ⟨HT, HTs⟩, HXr, HOB⟩ Hk
  iapply (wp_drain m c s.d s.n s.k h3 h2 h1) $$ [HO HD HT]
  · isplitr; · iexact HR
    isplitr; · iexact HL
    isplitl [HO]; · iexact HO
    isplitl [HD]; · iexact HD
    iexact HT
  iintro ⟨HO, HT, HX, HB⟩
  ihave HOB := (outB_add m c s.d) $$ [HOB HB]
  · isplitl [HOB]; · iexact HOB
    iexact HB
  iapply Hk
  isplitl [HO]; · iexact HO
  isplitl [HLI]; · iexact HLI
  isplitl [HYs]; · iexact HYs
  isplitl [HPs]; · iexact HPs
  isplitl [HMs]; · iexact HMs
  isplitl [HXs]; · iexact HXs
  isplitl [HYr]; · iexact HYr
  isplitl [HOA]; · iexact HOA
  isplitl [HDs]; · iexact HDs
  isplitl [HT HTs]
  · isplitl [HT]; · iexact HT
    iexact HTs
  isplitl [HX HXr]
  · isplitl [HX]; · iexact HX
    iexact HXr
  iexact HOB

theorem wp_step (b : Blk) (s s' : St) (h : step b s = some s') {Φ : PUnit → sProp 𝕄} {kk : PUnit → Prog (TpuEff nD τ sig (Elt F) Λ₀ .tc) PUnit} :
    iprop(recs m ∗ levAts L lv ∗ Inv m c s) ⊢ iprop((Inv m c s' -∗ W c (kk ⟨⟩) Φ) -∗ W c (b.prog c >>= kk) Φ) := by
  cases b with
  | loads j =>
    simp only [step] at h
    split at h <;> rename_i hc
    · obtain ⟨rfl, h1, h2, h3, h4, h5⟩ := hc
      cases h
      show _ ⊢ iprop(_ -∗ W c (loadsP c s.l >>= kk) Φ)
      unfold Inv
      iintro ⟨-, -, HO, HLI, HRI⟩ Hk
      iapply (wp_step_loads m c s h1 h2 h3 h4 h5) $$ HLI
      iintro HLI
      iapply Hk
      isplitl [HO]; · iexact HO
      isplitl [HLI]; · iexact HLI
      iexact HRI
    · cases h
  | ysend j =>
    simp only [step] at h
    split at h <;> rename_i hc
    · obtain ⟨rfl, h1, h2, h3⟩ := hc
      cases h
      exact wp_step_ysend m c s h1 h2 h3
    · cases h
  | main j =>
    simp only [step] at h
    split at h <;> rename_i hc
    · obtain ⟨rfl, h1, h2, h3, h4⟩ := hc
      cases h
      exact wp_step_main m c s h1 h2 h3 h4
    · cases h
  | drain j =>
    simp only [step] at h
    split at h <;> rename_i hc
    · obtain ⟨rfl, h1, h2, h3⟩ := hc
      cases h
      exact wp_step_drain m c s h1 h2 h3
    · cases h
  | xWait j => cases h
  | yWait j => cases h
  | tWait j => cases h

theorem runP_append (l₁ l₂ : List Blk) : (runP c (l₁ ++ l₂) : Prog (TpuEff nD τ sig (Elt F) Λ₀ .tc) PUnit) = runP c l₁ >>= fun _ => runP c l₂ := by
  induction l₁ with
  | nil => rfl
  | cons b bs ih => simp only [List.cons_append, runP, ih, Prog.bind_assoc]

theorem wp_steps (bs : List Blk) : ∀ (s s' : St), steps bs s = some s' → ∀ {Φ : PUnit → sProp 𝕄} {kk : PUnit → Prog (TpuEff nD τ sig (Elt F) Λ₀ .tc) PUnit},
    iprop(recs m ∗ levAts L lv ∗ Inv m c s) ⊢ iprop((Inv m c s' -∗ W c (kk ⟨⟩) Φ) -∗ W c (runP c bs >>= kk) Φ) := by
  induction bs with
  | nil =>
    intro s s' h Φ kk
    cases h
    simp only [runP, Prog.bind_ret, Prog.pure_eq_ret]
    iintro ⟨-, -, HI⟩ Hk
    iapply Hk; iexact HI
  | cons b bs ih =>
    intro s s' h Φ kk
    simp only [steps] at h
    obtain ⟨s₁, h1, h2⟩ := Option.bind_eq_some_iff.mp h
    simp only [runP, Prog.bind_assoc]
    iintro ⟨#HR, #HL, HI⟩ Hk
    iapply (wp_step m c b s s₁ h1) $$ [HI]
    · isplitr; · iexact HR
      isplitr; · iexact HL
      iexact HI
    iintro HI
    iapply (ih s₁ s' h2) $$ [HI]
    · isplitr; · iexact HR
      isplitr; · iexact HL
      iexact HI
    iexact Hk

/-! ## The blocks before the barrier -/

theorem wp_pre {Φ : PUnit → sProp 𝕄} {kk : PUnit → Prog (TpuEff nD τ sig (Elt F) Λ₀ .tc) PUnit} :
    LInv m c ⟨0, 0, 0, 0⟩ ⊢ iprop((LInv m c ⟨6, 0, 0, 0⟩ -∗ W c (kk ⟨⟩) Φ) -∗ W c (runP c pre >>= kk) Φ) := by
  have key : ∀ (n a : ℕ), a + n ≤ 8 → ∀ {Φ : PUnit → sProp 𝕄} {kk : PUnit → Prog (TpuEff nD τ sig (Elt F) Λ₀ .tc) PUnit},
      LInv m c ⟨a, 0, 0, 0⟩ ⊢ iprop((LInv m c ⟨a + n, 0, 0, 0⟩ -∗ W c (kk ⟨⟩) Φ) -∗ W c (runP c ((List.range' a n).map .loads) >>= kk) Φ) := by
    intro n
    induction n with
    | zero =>
      intro a ha Φ kk
      simp only [List.range'_zero, List.map_nil, runP, Prog.bind_ret, Prog.pure_eq_ret]
      iintro HI Hk
      iapply Hk; iexact HI
    | succ n ih =>
      intro a ha Φ kk
      simp only [List.range'_succ, List.map_cons, runP, Prog.bind_assoc, Blk.prog]
      rw [show a + (n + 1) = a + 1 + n by omega]
      iintro HI Hk
      iapply (wp_step_loads m c ⟨a, 0, 0, 0⟩ (by dsimp only; omega) (by dsimp only; omega) (by dsimp only; omega) (Nat.zero_le _) (Nat.zero_le _)) $$ HI
      iintro HI
      iapply (ih (a + 1) (by omega)) $$ HI
      iexact Hk
  exact key 6 0 (by omega)

/-! ## The last waits -/

/-- The slots of the last chunks, free and closed. -/
def XEnd (j : ℕ) : sProp 𝕄 := iprop(semVal (cl c (.dma (stS j))) 0 ∗ semVal (xsC c j) 0 ∗ some' (F := F) c (xsV j) ∗ OutA m c j)
def YEnd (j : ℕ) : sProp 𝕄 := iprop(semVal (ysC c j) 0 ∗ some' (F := F) c (ysV j))
def TEnd (j : ℕ) : sProp 𝕄 := iprop(Tslot (F := F) c j ∗ OutB m c j)

theorem wp_xWaits (n : ℕ) : ∀ a, 28 ≤ a → a + n ≤ 32 → ∀ {Φ : PUnit → sProp 𝕄} {kk : PUnit → Prog (TpuEff nD τ sig (Elt F) Λ₀ .tc) PUnit},
    iprop(recs m ∗ levAts L lv ∗ owesE c (Ow c 32 32) ∗ S a (a + n) (Xfly m c))
      ⊢ iprop(((owesE c (Ow c 32 32) ∗ S a (a + n) (XEnd m c)) -∗ W c (kk ⟨⟩) Φ) -∗ W c (runP c ((List.range' a n).map .xWait) >>= kk) Φ) := by
  induction n with
  | zero =>
    intro a ha h' Φ kk
    simp only [List.range'_zero, List.map_nil, runP, Prog.bind_ret, Prog.pure_eq_ret]
    rw [S_nil (by omega), S_nil (by omega)]
    iintro ⟨-, -, HO, HX⟩ Hk
    iapply Hk
    isplitl [HO]; · iexact HO
    iexact HX
  | succ n ih =>
    intro a ha h' Φ kk
    simp only [List.range'_succ, List.map_cons, runP, Prog.bind_assoc, Blk.prog]
    rw [show a + (n + 1) = a + 1 + n by omega, S_take (show a < a + 1 + n by omega), S_take (show a < a + 1 + n by omega)]
    iintro ⟨#HR, #HL, HO, HX, HXs⟩ Hk
    iapply (wp_xWait m c a 32 32 (by omega)) $$ [HO HX]
    · isplitr; · iexact HR
      isplitr; · iexact HL
      isplitl [HO]; · iexact HO
      iexact HX
    iintro ⟨HO, HX, HA⟩
    ihave HX := (Entails.of_eq (show Xslot (F := F) c (a + 4) = iprop(semVal (cl c (.dma (stS a))) 0 ∗ atPos ER (xsC c a) ((a + 4) / 4) ∅ 0 ∗ reached ER (xsC c a) ((a + 4) / 4) ∗ some' c (xsV a)) by
      unfold Xslot
      rw [show xsC c (a + 4) = xsC c a from congrArg (fun q => cl c (.dma q)) (sem4_congr _ (by omega)), show stS (a + 4) = stS a from sem4_congr _ (by omega),
        show xsV (a + 4) = xsV a from slot4_congr _ (by omega)])) $$ HX
    icases HX with ⟨Hst, Hat, -, Hs⟩
    imod (cell_done m c (xsS a) (by rw [xsS_val]; omega) ((a + 4) / 4) (by rw [nR_xs]; omega)) $$ [Hat] with Hz
    · isplitr; · iexact HR
      iexact Hat
    iapply (ih (a + 1) (by omega) (by omega)) $$ [HO HXs]
    · isplitr; · iexact HR
      isplitr; · iexact HL
      isplitl [HO]; · iexact HO
      iexact HXs
    iintro ⟨HO, HXs⟩
    iapply Hk
    isplitl [HO]; · iexact HO
    isplitr [HXs]
    · unfold XEnd
      isplitl [Hst]; · iexact Hst
      isplitl [Hz]; · iexact Hz
      isplitl [Hs]; · iexact Hs
      iexact HA
    iexact HXs

theorem wp_yWaits (n : ℕ) : ∀ a, 24 ≤ a → a + n ≤ 32 → ∀ {Φ : PUnit → sProp 𝕄} {kk : PUnit → Prog (TpuEff nD τ sig (Elt F) Λ₀ .tc) PUnit},
    iprop(recs m ∗ levAts L lv ∗ owesE c (Ow c 32 32) ∗ S a (a + n) (Yfly c))
      ⊢ iprop(((owesE c (Ow c 32 32) ∗ S a (a + n) (YEnd c)) -∗ W c (kk ⟨⟩) Φ) -∗ W c (runP c ((List.range' a n).map .yWait) >>= kk) Φ) := by
  induction n with
  | zero =>
    intro a ha h' Φ kk
    simp only [List.range'_zero, List.map_nil, runP, Prog.bind_ret, Prog.pure_eq_ret]
    rw [S_nil (by omega), S_nil (by omega)]
    iintro ⟨-, -, HO, HX⟩ Hk
    iapply Hk
    isplitl [HO]; · iexact HO
    iexact HX
  | succ n ih =>
    intro a ha h' Φ kk
    simp only [List.range'_succ, List.map_cons, runP, Prog.bind_assoc, Blk.prog]
    rw [show a + (n + 1) = a + 1 + n by omega, S_take (show a < a + 1 + n by omega), S_take (show a < a + 1 + n by omega)]
    iintro ⟨#HR, #HL, HO, HX, HXs⟩ Hk
    iapply (wp_yWait m c a 32 32 (by omega)) $$ [HO HX]
    · isplitr; · iexact HR
      isplitr; · iexact HL
      isplitl [HO]; · iexact HO
      iexact HX
    iintro ⟨HO, HX⟩
    ihave HX := (Entails.of_eq (show Yslot (F := F) c (a + 8) = iprop(atPos ER (ysC c a) ((a + 8) / 8) ∅ 0 ∗ reached ER (ysC c a) ((a + 8) / 8) ∗ some' c (ysV a)) by
      unfold Yslot
      rw [show ysC c (a + 8) = ysC c a from congrArg (fun q => cl c (.dma q)) (sem8_congr _ (by omega)), show ysV (a + 8) = ysV a from slot8_congr _ (by omega)])) $$ HX
    icases HX with ⟨Hat, -, Hs⟩
    imod (cell_done m c (ysS a) (by rw [ysS_val]; omega) ((a + 8) / 8) (by rw [nR_ys]; omega)) $$ [Hat] with Hz
    · isplitr; · iexact HR
      iexact Hat
    iapply (ih (a + 1) (by omega) (by omega)) $$ [HO HXs]
    · isplitr; · iexact HR
      isplitr; · iexact HL
      isplitl [HO]; · iexact HO
      iexact HXs
    iintro ⟨HO, HXs⟩
    iapply Hk
    isplitl [HO]; · iexact HO
    isplitr [HXs]
    · unfold YEnd
      isplitl [Hz]; · iexact Hz
      iexact Hs
    iexact HXs

theorem wp_tWaits (n : ℕ) : ∀ a, {Φ : PUnit → sProp 𝕄} → {kk : PUnit → Prog (TpuEff nD τ sig (Elt F) Λ₀ .tc) PUnit} →
    iprop(levAts L lv ∗ owesE c (Ow c 32 32) ∗ S a (a + n) (Tfly m c))
      ⊢ iprop(((owesE c (Ow c 32 32) ∗ S a (a + n) (TEnd m c)) -∗ W c (kk ⟨⟩) Φ) -∗ W c (runP c ((List.range' a n).map .tWait) >>= kk) Φ) := by
  induction n with
  | zero =>
    intro a Φ kk
    simp only [List.range'_zero, List.map_nil, runP, Prog.bind_ret, Prog.pure_eq_ret]
    rw [S_nil (by omega), S_nil (by omega)]
    iintro ⟨-, HO, HX⟩ Hk
    iapply Hk
    isplitl [HO]; · iexact HO
    iexact HX
  | succ n ih =>
    intro a Φ kk
    simp only [List.range'_succ, List.map_cons, runP, Prog.bind_assoc, Blk.prog]
    rw [show a + (n + 1) = a + 1 + n by omega, S_take (show a < a + 1 + n by omega), S_take (show a < a + 1 + n by omega)]
    iintro ⟨#HL, HO, HX, HXs⟩ Hk
    iapply (wp_tWait m c a 32 32) $$ [HO HX]
    · isplitr; · iexact HL
      isplitl [HO]; · iexact HO
      iexact HX
    iintro ⟨HO, HX, HB⟩
    ihave HX := (Entails.of_eq (show Tslot (F := F) c (a + 4) = Tslot c a by
      unfold Tslot; rw [show xtS (a + 4) = xtS a from sem4_congr _ (by omega)])) $$ HX
    iapply (ih (a + 1)) $$ [HO HXs]
    · isplitr; · iexact HL
      isplitl [HO]; · iexact HO
      iexact HXs
    iintro ⟨HO, HXs⟩
    iapply Hk
    isplitl [HO]; · iexact HO
    isplitr [HXs]
    · unfold TEnd
      isplitl [HX]; · iexact HX
      iexact HB
    iexact HXs

/-! ## All the blocks after the barrier -/

/-- The blocks that move the state. -/
def moving : List Blk := [.ysend 0, .ysend 1, .ysend 2, .ysend 3] ++ iters 32 0 ++ [.drain 31]

theorem post_eq : post = moving ++ (List.range' 28 4).map .xWait ++ (List.range' 24 8).map .yWait ++ (List.range' 28 4).map .tWait := rfl

theorem steps_moving : steps moving ⟨6, 0, 0, 0⟩ = some ⟨32, 32, 32, 32⟩ := by decide

/-- What a device holds at the end. -/
def End : sProp 𝕄 :=
  iprop(S 32 40 (Aslot c) ∗ S 32 40 (Bslot c) ∗ S 0 32 (Yrcv c) ∗ S 0 28 (OutA m c) ∗ S 0 32 (Xrcv c) ∗ S 0 28 (OutB m c)
    ∗ S 28 32 (XEnd m c) ∗ S 24 32 (YEnd c) ∗ S 28 32 (TEnd m c))

theorem Xpre_tail : S 32 36 (Xpre m c) ⊢ S 28 32 (Xfly m c) := by
  rw [show S 32 36 (Xpre m c) = S 28 32 (fun j => Xpre m c (j + 4)) from S_shift 4 28 4 _]
  exact S_mono fun j h1 h2 => by unfold Xpre; rw [if_neg (by omega), Nat.add_sub_cancel]
theorem Tpre_tail : S 32 36 (Tpre m c) ⊢ S 28 32 (Tfly m c) := by
  rw [show S 32 36 (Tpre m c) = S 28 32 (fun j => Tpre m c (j + 4)) from S_shift 4 28 4 _]
  exact S_mono fun j h1 h2 => by unfold Tpre; rw [if_neg (by omega), Nat.add_sub_cancel]
theorem Ypre_tail : S 32 40 (Ypre (F := F) c) ⊢ S 24 32 (Yfly c) := by
  rw [show S 32 40 (Ypre (F := F) c) = S 24 32 (fun j => Ypre c (j + 8)) from S_shift 8 24 8 _]
  exact S_mono fun j h1 h2 => by unfold Ypre; rw [if_neg (by omega), Nat.add_sub_cancel]

theorem wp_post {Φ : PUnit → sProp 𝕄} {kk : PUnit → Prog (TpuEff nD τ sig (Elt F) Λ₀ .tc) PUnit} :
    iprop(recs m ∗ levAts L lv ∗ Inv m c ⟨6, 0, 0, 0⟩) ⊢ iprop(((owesE c 0 ∗ End m c) -∗ W c (kk ⟨⟩) Φ) -∗ W c (runP c post >>= kk) Φ) := by
  rw [post_eq, runP_append, runP_append, runP_append]
  simp only [Prog.bind_assoc]
  rw [← Ow_done c]
  iintro ⟨#HR, #HL, HI⟩ Hk
  iapply (wp_steps m c moving _ _ steps_moving) $$ [HI]
  · isplitr; · iexact HR
    isplitr; · iexact HL
    iexact HI
  unfold Inv LInv RInv
  dsimp only
  iintro ⟨HO, ⟨-, HA, HB, -, -⟩, -, HY, -, HX, HYr, HOA, -, HT, HXr, HOB⟩
  ihave HX := (Xpre_tail m c) $$ HX
  ihave HY := (Ypre_tail (F := F) c) $$ HY
  ihave HT := (Tpre_tail m c) $$ HT
  iapply (wp_xWaits m c 4 28 (by omega) (by omega)) $$ [HO HX]
  · isplitr; · iexact HR
    isplitr; · iexact HL
    isplitl [HO]; · iexact HO
    iexact HX
  iintro ⟨HO, HX⟩
  iapply (wp_yWaits m c 8 24 (by omega) (by omega)) $$ [HO HY]
  · isplitr; · iexact HR
    isplitr; · iexact HL
    isplitl [HO]; · iexact HO
    iexact HY
  iintro ⟨HO, HY⟩
  iapply (wp_tWaits m c 4 28) $$ [HO HT]
  · isplitr; · iexact HL
    isplitl [HO]; · iexact HO
    iexact HT
  iintro ⟨HO, HT⟩
  iapply Hk
  isplitl [HO]; · iexact HO
  unfold End
  isplitl [HA]; · iexact HA
  isplitl [HB]; · iexact HB
  isplitl [HYr]; · iexact HYr
  isplitl [HOA]; · iexact HOA
  isplitl [HXr]; · iexact HXr
  isplitl [HOB]; · iexact HOB
  isplitl [HX]; · iexact HX
  isplitl [HY]; · iexact HY
  iexact HT

end Steps

end Cert.KernelIdeal.Prf

end
-- ==== Proof.Body.lean ====
module

public import proofs.«01_k».proof.Proof.Inv

/-! The entry handshake, and one device's whole body. -/

@[expose] public section

noncomputable section

namespace Cert.KernelIdeal.Prf

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (c : Dev nD)

/-- The landing buffer for the `y` neighbour's chunks, and for the `x` neighbour's. -/
def YBuf : sProp 𝕄 := bigSep (Finset.range 32) (fun k => some' (F := F) c (yrV k))
def XBuf : sProp 𝕄 := bigSep (Finset.range 32) (fun k => some' (F := F) c (xrV k))

theorem barPay_false : barPay (F := F) c false = YBuf (peerY c) := rfl
theorem barPay_true : barPay (F := F) c true = XBuf (peerX c) := rfl

/-- What the handshake takes. -/
def BarRes : sProp 𝕄 :=
  iprop(atPos ER (barC c) 0 ∅ 0 ∗ cred (tallyAt (barC c) () 2)
    ∗ dutyTok ER (barC (peerY c)) 0 false ∗ dutyTok ER (barC (peerX c)) 0 true ∗ YBuf (F := F) c ∗ XBuf c)

theorem wp_barrier {Φ : PUnit → sProp 𝕄} {kk : PUnit → Prog (TpuEff nD τ sig (Elt F) Λ₀ .tc) PUnit} :
    iprop(recs m ∗ levAts L lv ∗ owesE c (O₀ c) ∗ BarRes c)
      ⊢ iprop(((owesE c (Ow c 0 0) ∗ semVal (barC c) 0 ∗ YBuf (F := F) (peerY c) ∗ XBuf (peerX c)) -∗ W c (kk ⟨⟩) Φ) -∗ W c (barrierP c >>= kk) Φ) := by
  have hy : (Rd m).payload (barC (peerY c)) 0 false = YBuf (F := F) c := (barPay_false (F := F) (peerY c)).trans (by rw [peerY_peerY])
  have hx : (Rd m).payload (barC (peerX c)) 0 true = XBuf (F := F) c := (barPay_true (F := F) (peerX c)).trans (by rw [peerX_peerX])
  unfold barrierP BarRes owesE
  simp only [semSignalWord, semWaitWord, Prog.lift, Prog.bind_op, Prog.bind_ret, Prog.pure_eq_ret, Prog.bind_assoc]
  iintro ⟨#HR, #HL, ⟨%W₀, HO⟩, Hat, Hc, HtY, HtX, HY, HX⟩ Hk
  ihave HIy := (recs_bar m (peerY c)) $$ HR
  ihave HIx := (recs_bar m (peerX c)) $$ HR
  ihave HI := (recs_bar m c) $$ HR
  unfold rec1
  icases HIy with ⟨⟨%κy, #HIy⟩, #Hry⟩
  icases HIx with ⟨⟨%κx, #HIx⟩, #Hrx⟩
  icases HI with ⟨⟨%κ, #HI⟩, -⟩
  iapply (Rounds.wp_signal 𝒱₀ ER (Rd m) (c : Thread nD τ) none (dst := (peerY c : Thread nD τ)) (κ := κy) (sem := barS) (r := 0)
      (d := false) (by rw [duties_bar]; exact Finset.mem_univ _) (show (Rd m).amount (barC (peerY c)) 0 false = (1#32 : BitVec 32).toNat by rfl) ()
      (Ow c 0 0 + tallyAt (barC (peerX c)) () 1) (O₀ := O₀ c) rfl) $$ [HO HtY HY]
  · isplitr; · iexact HIy
    isplitl [HO]; · iexact HO
    isplitl [HtY]; · iexact HtY
    isplitl [HY]; · iapply (Entails.of_eq hy.symm); iexact HY
    iexact Hry
  iintro HO
  iapply (Rounds.wp_signal 𝒱₀ ER (Rd m) (c : Thread nD τ) none (dst := (peerX c : Thread nD τ)) (κ := κx) (sem := barS) (r := 0)
      (d := true) (by rw [duties_bar]; exact Finset.mem_univ _) (show (Rd m).amount (barC (peerX c)) 0 true = (1#32 : BitVec 32).toNat by rfl) ()
      (Ow c 0 0) rfl) $$ [HO HtX HX]
  · isplitr; · iexact HIx
    isplitl [HO]; · iexact HO
    isplitl [HtX]; · iexact HtX
    isplitl [HX]; · iapply (Entails.of_eq hx.symm); iexact HX
    iexact Hrx
  iintro HO
  iapply (Rounds.wp_wait_rest_token 𝒱₀ ER (Rd m) (c : Thread nD τ) none (κ := κ)
      (wpE_semWait_eq 𝒱₀ (c : Thread nD τ) none Set.univ) (Set.mem_univ _) () (O := Ow c 0 0) (W := W₀) (R := 0) (m := 0) (T := ∅)
      (by rw [expect_bar]; decide)) $$ [Hc HO Hat]
  · isplitr; · iexact HI
    isplitl [Hc]; · iexact Hc
    isplitl [HO]; · iexact HO
    isplitr; · iapply (mayWait c (.reg barS) 0 0 (by decide) (by decide)); iexact HL
    iexact Hat
  iintro ⟨HO, Hat, -, Hpay⟩
  ihave Hp := (Entails.of_eq (rest_bar m c)) $$ Hpay
  icases Hp with ⟨HY, HX⟩
  ihave HY := (Entails.of_eq (barPay_false (F := F) c)) $$ HY
  ihave HX := (Entails.of_eq (barPay_true (F := F) c)) $$ HX
  imod (Rounds.cell_close ER (Rd m) (Set.mem_univ κ) (fun h => h) (R := 0 + 1) (fun r h => duties_bar_later m c r h)) $$ [Hat] with Hz
  · isplitr; · iexact HI
    iexact Hat
  iapply Hk
  isplitl [HO]; · iexists _; iexact HO
  isplitl [Hz]; · iexact Hz
  isplitl [HY]; · iexact HY
  iexact HX

/-! ## The whole body -/

/-- What a device holds of a chunk before the handshake. -/
def Yres₀ (j : ℕ) : sProp 𝕄 := iprop(dutyTok ER (ysC c j) (j / 8) false ∗ dutyTok ER (yrC (peerY c) j) 0 false)
def Mres₀ (j : ℕ) : sProp 𝕄 :=
  iprop(atPos ER (yrC c j) 0 ∅ 0 ∗ cred (tallyAt (yrC c j) () Nb) ∗ dutyTok ER (xsC c j) (j / 4) false ∗ dutyTok ER (xrC (peerX c) j) 0 false
    ∗ some' (F := F) c (outAv c j))

/-- What a device starts with. -/
def Start : sProp 𝕄 :=
  iprop((S 0 32 (Lres m c) ∗ S 0 8 (Aslot c) ∗ S 0 8 (Bslot c)) ∗ (S 0 32 (Yres₀ c) ∗ S 0 8 (Yslot c) ∗ S 0 32 (Mres₀ c) ∗ S 0 4 (Xslot c)
    ∗ S 0 32 (Dres c) ∗ S 0 4 (Tslot c)) ∗ BarRes c)

theorem Yres_mk : iprop(S 0 32 (Yres₀ (F := F) c) ∗ YBuf (peerY c)) ⊢ S 0 32 (Yres c) := by
  unfold YBuf S
  rw [Finset.range_eq_Ico, ← bigSep_sep']
  refine bigSep_mono fun j _ => ?_
  have h : iprop(Yres₀ (F := F) c j ∗ some' (peerY c) (yrV j)) ⊢ Yres c j := by
    unfold Yres₀ Yres
    iintro ⟨⟨H1, H2⟩, H3⟩
    isplitl [H1]; · iexact H1
    isplitl [H2]; · iexact H2
    iexact H3
  exact h
theorem Mres_mk : iprop(S 0 32 (Mres₀ (F := F) c) ∗ XBuf (peerX c)) ⊢ S 0 32 (Mres c) := by
  unfold XBuf S
  rw [Finset.range_eq_Ico, ← bigSep_sep']
  refine bigSep_mono fun j _ => ?_
  have h : iprop(Mres₀ (F := F) c j ∗ some' (peerX c) (xrV j)) ⊢ Mres c j := by
    unfold Mres₀ Mres
    iintro ⟨⟨H1, H2, H3, H4, H5⟩, H6⟩
    isplitl [H1]; · iexact H1
    isplitl [H2]; · iexact H2
    isplitl [H3]; · iexact H3
    isplitl [H4]; · iexact H4
    isplitl [H6]; · iexact H6
    iexact H5
  exact h

theorem wp_body {Φ : PUnit → sProp 𝕄} :
    iprop(recs m ∗ levAts L lv ∗ owesE c (O₀ c) ∗ Start m c)
      ⊢ iprop(((owesE c 0 ∗ semVal (barC c) 0 ∗ End m c) -∗ Φ ⟨⟩) -∗ W c bodyP Φ) := by
  have hb : (bodyP : Prog (TpuEff nD τ sig (Elt F) Λ₀ .tc) PUnit) = (do
      let d : Dev nD ← Prog.lift .deviceId
      runP d pre
      barrierP d
      runP d post
      pure ⟨⟩) := by unfold bodyP; congr 1
  rw [hb]
  simp only [Prog.lift, Prog.bind_op, Prog.bind_ret, wp_deviceId]
  unfold Start
  iintro ⟨#HR, #HL, HO, HLI, ⟨HY, HYs, HM, HXs, HD, HT⟩, HB⟩ Hk
  iapply (wp_pre m c) $$ [HLI]
  · unfold LInv
    icases HLI with ⟨HLr, HA, HB⟩
    isplitl [HLr]; · iexact HLr
    isplitl [HA]; · iexact HA
    isplitl [HB]; · iexact HB
    rw [S_nil (show 0 ≤ 0 by omega), S_nil (show 0 ≤ 0 by omega)]
    isplitl <;> iempintro
  iintro HLI
  iapply (wp_barrier m c) $$ [HO HB]
  · isplitr; · iexact HR
    isplitr; · iexact HL
    isplitl [HO]; · iexact HO
    iexact HB
  iintro ⟨HO, Hz, HYB, HXB⟩
  ihave HY := (Yres_mk (F := F) c) $$ [HY HYB]
  · isplitl [HY]; · iexact HY
    iexact HYB
  ihave HM := (Mres_mk (F := F) c) $$ [HM HXB]
  · isplitl [HM]; · iexact HM
    iexact HXB
  ihave HYs := (show S 0 8 (Yslot (F := F) c) ⊢ S 0 8 (Ypre c) from S_mono fun j _ h => by unfold Ypre; rw [if_pos h]) $$ HYs
  ihave HXs := (show S 0 4 (Xslot (F := F) c) ⊢ S 0 4 (Xpre m c) from S_mono fun j _ h => by unfold Xpre; rw [if_pos h]) $$ HXs
  ihave HT := (show S 0 4 (Tslot (F := F) c) ⊢ S 0 4 (Tpre m c) from S_mono fun j _ h => by unfold Tpre; rw [if_pos h]) $$ HT
  iapply (wp_post m c) $$ [HO HLI HY HYs HM HXs HD HT]
  · isplitr; · iexact HR
    isplitr; · iexact HL
    unfold Inv RInv
    dsimp only
    isplitl [HO]; · iexact HO
    isplitl [HLI]; · iexact HLI
    isplitl [HY]; · iexact HY
    isplitl [HYs]; · iexact HYs
    isplitl [HM]; · iexact HM
    isplitl [HXs]; · iexact HXs
    rw [S_nil (show 0 ≤ 0 by omega), S_nil (show 0 - 4 ≤ 0 by omega), S_nil (show 0 ≤ 0 by omega), S_nil (show 0 - 4 ≤ 0 by omega)]
    isplitr; · iempintro
    isplitr; · iempintro
    isplitl [HD]; · iexact HD
    isplitl [HT]; · iexact HT
    isplitl <;> iempintro
  iintro ⟨HO, HE⟩
  simp only [Prog.pure_eq_ret, wp_ret]
  imodintro
  iapply Hk
  isplitl [HO]; · iexact HO
  isplitl [Hz]; · iexact Hz
  iexact HE

end Cert.KernelIdeal.Prf

end
-- ==== Proof.Geom.lean ====
module

public import proofs.«01_k».proof.Proof.Body
public import Idealize.ShloMosaic.Lib.Pipeline.ValueKit.Geometry

/-! The buffers cut into chunks, and the chunks joined again. -/

@[expose] public section

noncomputable section

namespace Cert.KernelIdeal.Prf

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (c : Dev nD)

/-! ## Families of elements, each family the elements with one key -/

section Keys
variable {ℓ : Loc nD τ sig} (a b : ℕ) (K : ℕ → Finset (Idx ℓ)) (key : Idx ℓ → ℕ) (ρ : ℕ → ℕ)
  (hK : ∀ j, a ≤ j → j < b → ∀ i ∈ K j, key i = ρ j) (hρ : ∀ j, a ≤ j → j < b → ∀ j', a ≤ j' → j' < b → ρ j = ρ j' → j = j')
  (hc : ∀ i : Idx ℓ, ∃ j, a ≤ j ∧ j < b ∧ i ∈ K j)

include hK hρ in
theorem keys_disjoint : ∀ j ∈ Finset.Ico a b, ∀ j' ∈ Finset.Ico a b, j ≠ j' → Disjoint (K j) (K j') := by
  intro j hj j' hj' hne
  rw [Finset.mem_Ico] at hj hj'
  exact Finset.disjoint_left.mpr fun i h h' =>
    hne (hρ j hj.1 hj.2 j' hj'.1 hj'.2 ((hK j hj.1 hj.2 i h).symm.trans (hK j' hj'.1 hj'.2 i h')))

include hc in
theorem keys_cover : (Finset.Ico a b).biUnion K = Finset.univ := by
  ext i
  obtain ⟨j, h1, h2, h3⟩ := hc i
  simp only [Finset.mem_biUnion, Finset.mem_Ico, Finset.mem_univ, iff_true]
  exact ⟨j, ⟨h1, h2⟩, h3⟩

include hK hρ hc in
theorem keys_split {q : PosShare TreeShare} (f : Buf (Elt F) ℓ) : (ℓ ↦{q} f : sProp 𝕄) ⊢ S a b (fun j => iprop(ℓ ↦[K j]{q} f)) := by
  unfold S
  rw [← pointsTo_biUnion (Finset.Ico a b) K (keys_disjoint a b K key ρ hK hρ), keys_cover a b K hc]

include hK hρ in
theorem keys_part {q : PosShare TreeShare} (f : Buf (Elt F) ℓ) : (ℓ ↦{q} f : sProp 𝕄) ⊢ S a b (fun j => iprop(ℓ ↦[K j]{q} f)) := by
  unfold S
  rw [← pointsTo_biUnion (Finset.Ico a b) K (keys_disjoint a b K key ρ hK hρ)]
  exact (pointsTo_split_subset (Finset.subset_univ _)).1.trans sep_elim_left

include hK hρ hc in
theorem keys_join {q : PosShare TreeShare} (fs : ℕ → Buf (Elt F) ℓ) (f₀ : Buf (Elt F) ℓ) (g : Buf (Elt F) ℓ)
    (hg : ∀ j, a ≤ j → j < b → ∀ i ∈ K j, fs j i = g i) :
    S a b (fun j => iprop(ℓ ↦[K j]{q} fs j)) ⊢ (ℓ ↦{q} g : sProp 𝕄) := by
  unfold S
  refine (pointsTo_biUnion_join (Finset.Ico a b) K fs f₀ (keys_disjoint a b K key ρ hK hρ)).trans ?_
  rw [keys_cover a b K hc]
  iintro ⟨%g', %hg', H⟩
  have e : g' = g := by
    funext i
    obtain ⟨j, h1, h2, h3⟩ := hc i
    rw [hg' j (Finset.mem_Ico.mpr ⟨h1, h2⟩) i h3, hg j h1 h2 i h3]
  subst e
  iexact H

include hK hρ hc in
theorem keys_join_some {q : PosShare TreeShare} (f₀ : Buf (Elt F) ℓ) :
    S a b (fun j => iprop(∃ f : Buf (Elt F) ℓ, ℓ ↦[K j]{q} f)) ⊢ (iprop(∃ f, ℓ ↦{q} f) : sProp 𝕄) := by
  unfold S
  have : Nonempty (Buf (Elt F) ℓ) := ⟨f₀⟩
  refine (Idealize.SL.BI.bigSep_exists_pi (Finset.Ico a b) (fun j (f : Buf (Elt F) ℓ) => (ℓ ↦[K j]{q} f : sProp 𝕄))).trans ?_
  iintro ⟨%fs, H⟩
  ihave H := (pointsTo_biUnion_join (Finset.Ico a b) K fs f₀ (keys_disjoint a b K key ρ hK hρ)) $$ H
  icases H with ⟨%g, -, H⟩
  iexists g
  iapply (Entails.of_eq (congrArg (fun s => (ℓ ↦[s]{q} g : sProp 𝕄)) (keys_cover a b K hc)))
  iexact H
end Keys

theorem S_some {a b : ℕ} {ℓ : Loc nD τ sig} {K : ℕ → Finset (Idx ℓ)} {q : PosShare TreeShare} (f : Buf (Elt F) ℓ) :
    S a b (fun j => iprop(ℓ ↦[K j]{q} f)) ⊢ (S a b (fun j => iprop(∃ f : Buf (Elt F) ℓ, ℓ ↦[K j]{q} f)) : sProp 𝕄) :=
  S_mono fun j _ _ => by iintro H; iexists f; iexact H

theorem S_app {a b d : ℕ} (h : a ≤ b) (h' : b ≤ d) (Φ : ℕ → sProp 𝕄) : S a d Φ = iprop(S a b Φ ∗ S b d Φ) := by
  unfold S
  rw [← Finset.Ico_union_Ico_eq_Ico h h', bigSep_union (Finset.Ico_disjoint_Ico_consecutive a b d)]; rfl

theorem S_congr {a b : ℕ} {Φ Ψ : ℕ → sProp 𝕄} (h : ∀ j, a ≤ j → j < b → Φ j = Ψ j) : S a b Φ = S a b Ψ :=
  bigSep_congr fun j hj => h j (Finset.mem_Ico.mp hj).1 (Finset.mem_Ico.mp hj).2

theorem S_sep (a b : ℕ) (Φ Ψ : ℕ → sProp 𝕄) : S a b (fun j => iprop(Φ j ∗ Ψ j)) = iprop(S a b Φ ∗ S a b Ψ) := bigSep_sep' _ Φ Ψ

/-! ## Which elements a chunk has -/

theorem mem_rect8 (k : ℕ) (i : S8x256x1024.Idx) : i ∈ (rect8 k).set ↔ (i 0).val = k % 8 := by
  rw [Rect.mem_set_unit]
  constructor
  · intro h
    have h0 := h 0
    have e : (![k % 8, 0, 0] : Fin 3 → ℕ) 0 = k % 8 := rfl
    have e' : S1x256x1024.size 0 = 1 := rfl
    rw [e, e'] at h0; omega
  · intro h a
    have h1 : (i 1).val < 256 := (i 1).isLt
    have h2 : (i 2).val < 1024 := (i 2).isLt
    fin_cases a
    · show k % 8 ≤ (i 0).val ∧ (i 0).val < k % 8 + 1; omega
    · show 0 ≤ (i 1).val ∧ (i 1).val < 0 + 256; omega
    · show 0 ≤ (i 2).val ∧ (i 2).val < 0 + 1024; omega

theorem mem_rect4 (k : ℕ) (i : S4x256x1024.Idx) : i ∈ (rect4 k).set ↔ (i 0).val = k % 4 := by
  rw [Rect.mem_set_unit]
  constructor
  · intro h
    have h0 := h 0
    have e : (![k % 4, 0, 0] : Fin 3 → ℕ) 0 = k % 4 := rfl
    have e' : S1x256x1024.size 0 = 1 := rfl
    rw [e, e'] at h0; omega
  · intro h a
    have h1 : (i 1).val < 256 := (i 1).isLt
    have h2 : (i 2).val < 1024 := (i 2).isLt
    fin_cases a
    · show k % 4 ≤ (i 0).val ∧ (i 0).val < k % 4 + 1; omega
    · show 0 ≤ (i 1).val ∧ (i 1).val < 0 + 256; omega
    · show 0 ≤ (i 2).val ∧ (i 2).val < 0 + 1024; omega

theorem mem_rectRow (k : ℕ) (i : S8192x1024.Idx) : i ∈ (rectRow k).set ↔ (i 0).val / 256 = k % 32 := by
  rw [Rect.mem_set_unit]
  constructor
  · intro h
    have h0 := h 0
    have e : (![256 * (k % 32), 0] : Fin 2 → ℕ) 0 = 256 * (k % 32) := rfl
    have e' : S256x1024.size 0 = 256 := rfl
    rw [e, e'] at h0; omega
  · intro h a
    have h1 : (i 1).val < 1024 := (i 1).isLt
    fin_cases a
    · show 256 * (k % 32) ≤ (i 0).val ∧ (i 0).val < 256 * (k % 32) + 256; omega
    · show 0 ≤ (i 1).val ∧ (i 1).val < 0 + 1024; omega

theorem mem_aV (k : ℕ) (i : S8x256x1024.Idx) : i ∈ (aV k).view.set ↔ (i 0).val = k % 8 := by
  rw [View.set_reshape]; exact ValueKit.mem_set_slice_whole_iff cc0_scratch0 (rect8 k) i (mem_rect8 k i)
theorem mem_bV (k : ℕ) (i : S8x256x1024.Idx) : i ∈ (bV k).view.set ↔ (i 0).val = k % 8 := by
  rw [View.set_reshape]; exact ValueKit.mem_set_slice_whole_iff cc0_scratch1 (rect8 k) i (mem_rect8 k i)
theorem mem_ysV (k : ℕ) (i : S8x256x1024.Idx) : i ∈ (ysV k).view.set ↔ (i 0).val = k % 8 := by
  rw [View.set_reshape]; exact ValueKit.mem_set_slice_whole_iff cc0_scratch2 (rect8 k) i (mem_rect8 k i)
theorem mem_yrV (k : ℕ) (i : S8192x1024.Idx) : i ∈ (yrV k).view.set ↔ (i 0).val / 256 = k % 32 :=
  ValueKit.mem_set_slice_whole_iff cc0_scratch3 (rectRow k) i (mem_rectRow k i)
theorem mem_xsV (k : ℕ) (i : S4x256x1024.Idx) : i ∈ (xsV k).view.set ↔ (i 0).val = k % 4 := by
  rw [View.set_reshape]; exact ValueKit.mem_set_slice_whole_iff cc0_scratch4 (rect4 k) i (mem_rect4 k i)
theorem mem_xrV (k : ℕ) (i : S8192x1024.Idx) : i ∈ (xrV k).view.set ↔ (i 0).val / 256 = k % 32 :=
  ValueKit.mem_set_slice_whole_iff cc0_scratch5 (rectRow k) i (mem_rectRow k i)

/-! ## The scratch buffers -/

/-- A family of slots of one buffer, from the buffer and back. -/
theorem slots8 {ℓ : Loc nD τ sig} (a : ℕ) (K : ℕ → Finset (Idx ℓ)) (key : Idx ℓ → ℕ) (hK : ∀ j i, i ∈ K j ↔ key i = j % 8) (hk : ∀ i, key i < 8) :
    (∀ j, a ≤ j → j < a + 8 → ∀ i ∈ K j, key i = j % 8) ∧ (∀ j, a ≤ j → j < a + 8 → ∀ j', a ≤ j' → j' < a + 8 → j % 8 = j' % 8 → j = j')
      ∧ (∀ i : Idx ℓ, ∃ j, a ≤ j ∧ j < a + 8 ∧ i ∈ K j) :=
  ⟨fun j _ _ i h => (hK j i).mp h, fun j _ _ j' _ _ _ => by omega,
    fun i => ⟨a + (key i + 8 - a % 8) % 8, by omega, by omega, (hK _ i).mpr (by have := hk i; omega)⟩⟩
theorem slots4 {ℓ : Loc nD τ sig} (a : ℕ) (K : ℕ → Finset (Idx ℓ)) (key : Idx ℓ → ℕ) (hK : ∀ j i, i ∈ K j ↔ key i = j % 4) (hk : ∀ i, key i < 4) :
    (∀ j, a ≤ j → j < a + 4 → ∀ i ∈ K j, key i = j % 4) ∧ (∀ j, a ≤ j → j < a + 4 → ∀ j', a ≤ j' → j' < a + 4 → j % 4 = j' % 4 → j = j')
      ∧ (∀ i : Idx ℓ, ∃ j, a ≤ j ∧ j < a + 4 ∧ i ∈ K j) :=
  ⟨fun j _ _ i h => (hK j i).mp h, fun j _ _ j' _ _ _ => by omega,
    fun i => ⟨a + (key i + 4 - a % 4) % 4, by omega, by omega, (hK _ i).mpr (by have := hk i; omega)⟩⟩
theorem slots32 {ℓ : Loc nD τ sig} (K : ℕ → Finset (Idx ℓ)) (key : Idx ℓ → ℕ) (hK : ∀ j i, i ∈ K j ↔ key i = j % 32) (hk : ∀ i, key i < 32) :
    (∀ j, 0 ≤ j → j < 32 → ∀ i ∈ K j, key i = j % 32) ∧ (∀ j, 0 ≤ j → j < 32 → ∀ j', 0 ≤ j' → j' < 32 → j % 32 = j' % 32 → j = j')
      ∧ (∀ i : Idx ℓ, ∃ j, 0 ≤ j ∧ j < 32 ∧ i ∈ K j) :=
  ⟨fun j _ _ i h => (hK j i).mp h, fun j _ _ j' _ _ _ => by omega,
    fun i => ⟨key i, by omega, hk i, (hK _ i).mpr (by have := hk i; omega)⟩⟩

abbrev Any (b : Ref sig .tc) : sProp 𝕄 := iprop(∃ f : Buf (Elt F) ((c : Thread nD τ).loc b), ((c : Thread nD τ).loc b) ↦{fullShare} f)

theorem split_a : Any (F := F) c cc0_scratch0 ⊢ S 0 8 (fun j => some' c (aV j)) := by
  obtain ⟨h1, h2, h3⟩ := slots8 (ℓ := (c : Thread nD τ).loc cc0_scratch0) 0 (fun j => (aV j).view.set) (fun i => (i 0).val) mem_aV (fun i => (i 0).isLt)
  iintro ⟨%f, H⟩
  iapply (S_some f)
  iapply (keys_split (F := F) _ _ _ _ _ h1 h2 h3 f) $$ H
theorem join_a (a : ℕ) : S a (a + 8) (fun j => some' c (aV j)) ⊢ Any (F := F) c cc0_scratch0 := by
  obtain ⟨h1, h2, h3⟩ := slots8 (ℓ := (c : Thread nD τ).loc cc0_scratch0) a (fun j => (aV j).view.set) (fun i => (i 0).val) mem_aV (fun i => (i 0).isLt)
  exact keys_join_some (F := F) _ _ _ _ _ h1 h2 h3 (fun i => Classical.choice inferInstance)

theorem split_b : Any (F := F) c cc0_scratch1 ⊢ S 0 8 (fun j => some' c (bV j)) := by
  obtain ⟨h1, h2, h3⟩ := slots8 (ℓ := (c : Thread nD τ).loc cc0_scratch1) 0 (fun j => (bV j).view.set) (fun i => (i 0).val) mem_bV (fun i => (i 0).isLt)
  iintro ⟨%f, H⟩
  iapply (S_some f)
  iapply (keys_split (F := F) _ _ _ _ _ h1 h2 h3 f) $$ H
theorem join_b (a : ℕ) : S a (a + 8) (fun j => some' c (bV j)) ⊢ Any (F := F) c cc0_scratch1 := by
  obtain ⟨h1, h2, h3⟩ := slots8 (ℓ := (c : Thread nD τ).loc cc0_scratch1) a (fun j => (bV j).view.set) (fun i => (i 0).val) mem_bV (fun i => (i 0).isLt)
  exact keys_join_some (F := F) _ _ _ _ _ h1 h2 h3 (fun i => Classical.choice inferInstance)

theorem split_ys : Any (F := F) c cc0_scratch2 ⊢ S 0 8 (fun j => some' c (ysV j)) := by
  obtain ⟨h1, h2, h3⟩ := slots8 (ℓ := (c : Thread nD τ).loc cc0_scratch2) 0 (fun j => (ysV j).view.set) (fun i => (i 0).val) mem_ysV (fun i => (i 0).isLt)
  iintro ⟨%f, H⟩
  iapply (S_some f)
  iapply (keys_split (F := F) _ _ _ _ _ h1 h2 h3 f) $$ H
theorem join_ys (a : ℕ) : S a (a + 8) (fun j => some' c (ysV j)) ⊢ Any (F := F) c cc0_scratch2 := by
  obtain ⟨h1, h2, h3⟩ := slots8 (ℓ := (c : Thread nD τ).loc cc0_scratch2) a (fun j => (ysV j).view.set) (fun i => (i 0).val) mem_ysV (fun i => (i 0).isLt)
  exact keys_join_some (F := F) _ _ _ _ _ h1 h2 h3 (fun i => Classical.choice inferInstance)

theorem split_yr : Any (F := F) c cc0_scratch3 ⊢ S 0 32 (fun j => some' c (yrV j)) := by
  obtain ⟨h1, h2, h3⟩ := slots32 (ℓ := (c : Thread nD τ).loc cc0_scratch3) (fun j => (yrV j).view.set) (fun i => (i 0).val / 256) mem_yrV (fun i => (by have : (i 0).val < 8192 := (i 0).isLt; omega))
  iintro ⟨%f, H⟩
  iapply (S_some f)
  iapply (keys_split (F := F) _ _ _ _ _ h1 h2 h3 f) $$ H
theorem join_yr : S 0 32 (fun j => some' c (yrV j)) ⊢ Any (F := F) c cc0_scratch3 := by
  obtain ⟨h1, h2, h3⟩ := slots32 (ℓ := (c : Thread nD τ).loc cc0_scratch3) (fun j => (yrV j).view.set) (fun i => (i 0).val / 256) mem_yrV (fun i => (by have : (i 0).val < 8192 := (i 0).isLt; omega))
  exact keys_join_some (F := F) _ _ _ _ _ h1 h2 h3 (fun i => Classical.choice inferInstance)

theorem split_xs : Any (F := F) c cc0_scratch4 ⊢ S 0 4 (fun j => some' c (xsV j)) := by
  obtain ⟨h1, h2, h3⟩ := slots4 (ℓ := (c : Thread nD τ).loc cc0_scratch4) 0 (fun j => (xsV j).view.set) (fun i => (i 0).val) mem_xsV (fun i => (i 0).isLt)
  iintro ⟨%f, H⟩
  iapply (S_some f)
  iapply (keys_split (F := F) _ _ _ _ _ h1 h2 h3 f) $$ H
theorem join_xs (a : ℕ) : S a (a + 4) (fun j => some' c (xsV j)) ⊢ Any (F := F) c cc0_scratch4 := by
  obtain ⟨h1, h2, h3⟩ := slots4 (ℓ := (c : Thread nD τ).loc cc0_scratch4) a (fun j => (xsV j).view.set) (fun i => (i 0).val) mem_xsV (fun i => (i 0).isLt)
  exact keys_join_some (F := F) _ _ _ _ _ h1 h2 h3 (fun i => Classical.choice inferInstance)

theorem split_xr : Any (F := F) c cc0_scratch5 ⊢ S 0 32 (fun j => some' c (xrV j)) := by
  obtain ⟨h1, h2, h3⟩ := slots32 (ℓ := (c : Thread nD τ).loc cc0_scratch5) (fun j => (xrV j).view.set) (fun i => (i 0).val / 256) mem_xrV (fun i => (by have : (i 0).val < 8192 := (i 0).isLt; omega))
  iintro ⟨%f, H⟩
  iapply (S_some f)
  iapply (keys_split (F := F) _ _ _ _ _ h1 h2 h3 f) $$ H
theorem join_xr : S 0 32 (fun j => some' c (xrV j)) ⊢ Any (F := F) c cc0_scratch5 := by
  obtain ⟨h1, h2, h3⟩ := slots32 (ℓ := (c : Thread nD τ).loc cc0_scratch5) (fun j => (xrV j).view.set) (fun i => (i 0).val / 256) mem_xrV (fun i => (by have : (i 0).val < 8192 := (i 0).isLt; omega))
  exact keys_join_some (F := F) _ _ _ _ _ h1 h2 h3 (fun i => Classical.choice inferInstance)

/-! ## The argument -/

theorem ck_val (k : ℕ) : (ck k).val = k % 32 := rfl

theorem mem_xAv (k : ℕ) (i : S1x16384x2048.Idx) (h : i ∈ (xAv c k).view.set) : (i 1).val / 256 = 32 * (c.val / 8) + k % 32 ∧ (i 2).val / 1024 = 1 - c.val / 4 % 2 := by
  rw [View.set_reshape] at h
  have h' := (ValueKit.mem_set_slice_whole_iff main_arg0 _ i Rect.mem_set_unit).mp h
  simp only [k0_off1_eq] at h'
  have h1 : 8192 * (c.val / 8) + 256 * (k % 32) ≤ (i 1).val ∧ (i 1).val < 8192 * (c.val / 8) + 256 * (k % 32) + 256 := h' 1
  have h2 : 1024 - 1024 * (c.val / 4 % 2) ≤ (i 2).val ∧ (i 2).val < 1024 - 1024 * (c.val / 4 % 2) + 1024 := h' 2
  have := Nat.mod_lt (c.val / 4) (show 0 < 2 by decide)
  omega
theorem mem_xBv (k : ℕ) (i : S1x16384x2048.Idx) (h : i ∈ (xBv c k).view.set) : (i 1).val / 256 = 32 * (c.val / 8) + k % 32 ∧ (i 2).val / 1024 = c.val / 4 % 2 := by
  rw [View.set_reshape] at h
  have h' := (ValueKit.mem_set_slice_whole_iff main_arg0 _ i Rect.mem_set_unit).mp h
  simp only [k0_off2_eq] at h'
  have h1 : 8192 * (c.val / 8) + 256 * (k % 32) ≤ (i 1).val ∧ (i 1).val < 8192 * (c.val / 8) + 256 * (k % 32) + 256 := h' 1
  have h2 : 1024 * (c.val / 4 % 2) ≤ (i 2).val ∧ (i 2).val < 1024 * (c.val / 4 % 2) + 1024 := h' 2
  have := Nat.mod_lt (c.val / 4) (show 0 < 2 by decide)
  omega

/-- The elements of `x` that the copies read. -/
def setXA (j : ℕ) : Finset (Idx ((c : Thread nD τ).loc main_arg0)) := (xAv c j).view.set
def setXB (j : ℕ) : Finset (Idx ((c : Thread nD τ).loc main_arg0)) := (xBv c j).view.set
def setX (j : ℕ) : Finset (Idx ((c : Thread nD τ).loc main_arg0)) := if j < 32 then setXA c j else setXB c (j - 32)
theorem setX_A (j : ℕ) (h : j < 32) : setX c j = setXA c j := if_pos h
theorem setX_B (j : ℕ) : setX c (j + 32) = setXB c j := (if_neg (by omega)).trans (by rw [Nat.add_sub_cancel])

theorem split_x : (((c : Thread nD τ).loc main_arg0) ↦{fullShare.right} m ((c : Thread nD τ).loc main_arg0) : sProp 𝕄) ⊢ S 0 32 (Lres m c) := by
  have hc : c.val < 16 := c.isLt
  refine (keys_part (F := F) (ℓ := (c : Thread nD τ).loc main_arg0) 0 64 (setX c) (fun i => 2 * ((i 1).val / 256) + (i 2).val / 1024)
    (fun j => if j < 32 then 2 * (32 * (c.val / 8) + j) + (1 - c.val / 4 % 2) else 2 * (32 * (c.val / 8) + (j - 32)) + c.val / 4 % 2) ?_ ?_ _).trans ?_
  · intro j _ hj i hi
    by_cases h : j < 32
    · rw [setX_A c j h] at hi
      have := mem_xAv c j i hi
      rw [if_pos h]; omega
    · obtain ⟨j, rfl⟩ : ∃ t, j = t + 32 := ⟨j - 32, by omega⟩
      rw [setX_B] at hi
      have := mem_xBv c j i hi
      rw [if_neg h]; omega
  · intro j _ hj j' _ hj' h
    split at h <;> split at h <;> omega
  · rw [S_app (show 0 ≤ 32 by omega) (show 32 ≤ 64 by omega),
      show S 32 64 (fun j => iprop(((c : Thread nD τ).loc main_arg0) ↦[setX c j]{fullShare.right} m ((c : Thread nD τ).loc main_arg0)))
        = S 0 32 (fun j => iprop(((c : Thread nD τ).loc main_arg0) ↦[setX c (j + 32)]{fullShare.right} m ((c : Thread nD τ).loc main_arg0)) : ℕ → sProp 𝕄) from S_shift 32 0 32 _, ← S_sep]
    refine S_mono fun j _ h => ?_
    rw [setX_A c j h, setX_B c j]
    unfold Lres setXA setXB
    exact BI.Entails.refl _

/-! ## The result -/

theorem mem_outAv (k : ℕ) (i : S16384x1024.Idx) : i ∈ (outAv c k).view.set ↔ (i 0).val / 256 = 32 * (c.val / 8) + k % 32 := by
  refine ValueKit.mem_set_slice_whole_iff main_v1 _ i (Rect.mem_set_unit.trans ?_)
  simp only [k0_off3_eq]
  constructor
  · intro h'
    have h1 : 8192 * (c.val / 8) + 256 * (k % 32) ≤ (i 0).val ∧ (i 0).val < 8192 * (c.val / 8) + 256 * (k % 32) + 256 := h' 0
    omega
  · intro h a
    have h1 : (i 1).val < 1024 := (i 1).isLt
    fin_cases a
    · show 8192 * (c.val / 8) + 256 * (k % 32) ≤ (i 0).val ∧ (i 0).val < 8192 * (c.val / 8) + 256 * (k % 32) + 256; omega
    · show 0 ≤ (i 1).val ∧ (i 1).val < 0 + 1024; omega
theorem mem_outBv (k : ℕ) (i : S16384x1024.Idx) : i ∈ (outBv c k).view.set ↔ (i 0).val / 256 = 32 * (1 - c.val / 8) + k % 32 := by
  have hc : c.val < 16 := c.isLt
  refine ValueKit.mem_set_slice_whole_iff main_v1 _ i (Rect.mem_set_unit.trans ?_)
  simp only [k0_off4_eq]
  constructor
  · intro h'
    have h1 : 256 * (k % 32) + 8192 - 8192 * (c.val / 8) ≤ (i 0).val ∧ (i 0).val < 256 * (k % 32) + 8192 - 8192 * (c.val / 8) + 256 := h' 0
    omega
  · intro h a
    have h1 : (i 1).val < 1024 := (i 1).isLt
    fin_cases a
    · show 256 * (k % 32) + 8192 - 8192 * (c.val / 8) ≤ (i 0).val ∧ (i 0).val < 256 * (k % 32) + 8192 - 8192 * (c.val / 8) + 256; omega
    · show 0 ≤ (i 1).val ∧ (i 1).val < 0 + 1024; omega

/-- A chunk's index. -/
def ix (r q : ℕ) (hr : r < 256) (hq : q < 1024) : S256x1024.Idx
  | ⟨0, _⟩ => ⟨r, hr⟩
  | ⟨1, _⟩ => ⟨q, hq⟩

/-- The device that sums row `r` of device `c`'s result. -/
def owner (r : ℕ) : Dev nD := if r / 8192 = c.val / 8 then c else peerX c

/-- The result: each row as its owner sums it. -/
def outG : Buf (Elt F) ((c : Thread nD τ).loc main_v1) := fun i =>
  vS m (owner c (i 0).val) ((i 0).val % 8192 / 256) (ix ((i 0).val % 256) (i 1).val (Nat.mod_lt _ (by decide)) (i 1).isLt)

theorem vS_congr {k k' : ℕ} (h : k = k') {x x' : S256x1024.Idx} (hx : x = x') (d : Dev nD) : vS m d k x = vS m d k' x' := by subst h; subst hx; rfl

theorem outA_apply (k : ℕ) (hk : k < 32) (i) (hi : i ∈ (outAv c k).view.set) :
    (outAv c k).view.write (Elt F) (m ((outAv c k).view.loc (c : Thread nD τ))) (vS m c k) Finset.univ i = outG m c i := by
  have hi' := (mem_outAv c k i).mp hi
  obtain ⟨x, -, rfl⟩ := Finset.mem_map.mp hi
  rw [View.write_emb_of_mem _ _ (Finset.mem_univ x), cast_eq]
  have e0 : ((outAv c k).view.emb x 0).val = 8192 * (c.val / 8) + 256 * (k % 32) + (x 0).val := by
    refine (ValueKit.view_emb_slice_whole_unit_val main_v1 _ _ _ x 0).trans ((congrArg (fun n => n + (x 0).val) (congrFun (k0_off3_eq c (ck k)) 0)).trans ?_)
    rfl
  have e1 : ((outAv c k).view.emb x 1).val = (x 1).val := by
    refine (ValueKit.view_emb_slice_whole_unit_val main_v1 _ _ _ x 1).trans ((congrArg (fun n => n + (x 1).val) (congrFun (k0_off3_eq c (ck k)) 1)).trans ?_)
    exact Nat.zero_add _
  have hx : (x 0).val < 256 := (x 0).isLt
  have hc : c.val < 16 := c.isLt
  unfold outG owner
  rw [if_pos (by rw [e0]; omega)]
  refine vS_congr m (by rw [e0]; omega) ?_ c
  funext a
  fin_cases a
  · refine Fin.ext ?_
    show (x 0).val = ((outAv c k).view.emb x 0).val % 256
    rw [e0]; omega
  · exact Fin.ext e1.symm

theorem outB_apply (k : ℕ) (hk : k < 32) (i) (hi : i ∈ (outBv c k).view.set) :
    (outBv c k).view.write (Elt F) (m ((outBv c k).view.loc (c : Thread nD τ))) (vS m (peerX c) k) Finset.univ i = outG m c i := by
  have hi' := (mem_outBv c k i).mp hi
  obtain ⟨x, -, rfl⟩ := Finset.mem_map.mp hi
  rw [View.write_emb_of_mem _ _ (Finset.mem_univ x), cast_eq]
  have e0 : ((outBv c k).view.emb x 0).val = 256 * (k % 32) + 8192 - 8192 * (c.val / 8) + (x 0).val := by
    refine (ValueKit.view_emb_slice_whole_unit_val main_v1 _ _ _ x 0).trans ((congrArg (fun n => n + (x 0).val) (congrFun (k0_off4_eq c (ck k)) 0)).trans ?_)
    rfl
  have e1 : ((outBv c k).view.emb x 1).val = (x 1).val := by
    refine (ValueKit.view_emb_slice_whole_unit_val main_v1 _ _ _ x 1).trans ((congrArg (fun n => n + (x 1).val) (congrFun (k0_off4_eq c (ck k)) 1)).trans ?_)
    exact Nat.zero_add _
  have hx : (x 0).val < 256 := (x 0).isLt
  have hc : c.val < 16 := c.isLt
  unfold outG owner
  rw [if_neg (by rw [e0]; omega)]
  refine vS_congr m (by rw [e0]; omega) ?_ (peerX c)
  funext a
  fin_cases a
  · refine Fin.ext ?_
    show (x 0).val = ((outBv c k).view.emb x 0).val % 256
    rw [e0]; omega
  · exact Fin.ext e1.symm

/-- The elements of the result that a copy writes. -/
def setOA (j : ℕ) : Finset (Idx ((c : Thread nD τ).loc main_v1)) := (outAv c j).view.set
def setOB (j : ℕ) : Finset (Idx ((c : Thread nD τ).loc main_v1)) := (outBv c j).view.set
def setO (j : ℕ) : Finset (Idx ((c : Thread nD τ).loc main_v1)) := if j < 32 then setOA c j else setOB c (j - 32)
theorem setO_A (j : ℕ) (h : j < 32) : setO c j = setOA c j := if_pos h
theorem setO_B (j : ℕ) : setO c (j + 32) = setOB c j := (if_neg (by omega)).trans (by rw [Nat.add_sub_cancel])
def keyO (j : ℕ) : ℕ := if j < 32 then 32 * (c.val / 8) + j else 32 * (1 - c.val / 8) + (j - 32)

theorem out_keys :
    (∀ j, 0 ≤ j → j < 64 → ∀ i ∈ setO c j, (i 0).val / 256 = keyO c j)
    ∧ (∀ j, 0 ≤ j → j < 64 → ∀ j', 0 ≤ j' → j' < 64 → keyO c j = keyO c j' → j = j')
    ∧ (∀ i : Idx ((c : Thread nD τ).loc main_v1), ∃ j, 0 ≤ j ∧ j < 64 ∧ i ∈ setO c j) := by
  have hc : c.val < 16 := c.isLt
  refine ⟨?_, ?_, ?_⟩
  · intro j _ hj i hi
    unfold keyO
    by_cases h : j < 32
    · rw [setO_A c j h] at hi
      have := (mem_outAv c j i).mp hi
      rw [if_pos h]; omega
    · obtain ⟨j, rfl⟩ : ∃ t, j = t + 32 := ⟨j - 32, by omega⟩
      rw [setO_B] at hi
      have := (mem_outBv c j i).mp hi
      rw [if_neg h]; omega
  · intro j _ hj j' _ hj' h
    unfold keyO at h
    split at h <;> split at h <;> omega
  · intro i
    have hi : (i 0).val < 16384 := (i 0).isLt
    by_cases h : (i 0).val / 8192 = c.val / 8
    · refine ⟨(i 0).val % 8192 / 256, by omega, by omega, ?_⟩
      rw [setO_A c _ (by omega)]
      exact (mem_outAv c _ i).mpr (by omega)
    · refine ⟨(i 0).val % 8192 / 256 + 32, by omega, by omega, ?_⟩
      rw [setO_B]
      exact (mem_outBv c _ i).mpr (by omega)

/-- The two halves of the chunks of the result, at contents of their own. -/
theorem S_out (fs : ℕ → Buf (Elt F) ((c : Thread nD τ).loc main_v1)) :
    (S 0 64 (fun j => iprop(((c : Thread nD τ).loc main_v1) ↦[setO c j]{fullShare} fs j)) : sProp 𝕄)
      = iprop(S 0 32 (fun j => iprop(((c : Thread nD τ).loc main_v1) ↦[setO c j]{fullShare} fs j))
          ∗ S 0 32 (fun j => iprop(((c : Thread nD τ).loc main_v1) ↦[setO c (j + 32)]{fullShare} fs (j + 32)))) := by
  rw [S_app (show 0 ≤ 32 by omega) (show 32 ≤ 64 by omega)]
  exact congrArg _ (S_shift 32 0 32 _)

theorem split_out (f : Buf (Elt F) ((c : Thread nD τ).loc main_v1)) :
    (((c : Thread nD τ).loc main_v1) ↦{fullShare} f : sProp 𝕄) ⊢ iprop(S 0 32 (fun j => some' c (outAv c j)) ∗ S 0 32 (fun j => some' c (outBv c j))) := by
  obtain ⟨h1, h2, h3⟩ := out_keys c
  refine (keys_split (F := F) (ℓ := (c : Thread nD τ).loc main_v1) 0 64 (setO c) (fun i => (i 0).val / 256) (keyO c) h1 h2 h3 f).trans ?_
  rw [S_out]
  refine BIClass.sep_mono (S_mono fun j _ h => ?_) (S_mono fun j _ h => ?_)
  · rw [setO_A c j h]; unfold some' setOA; iintro H; iexists f; iexact H
  · rw [setO_B c j]; unfold some' setOB; iintro H; iexists f; iexact H

/-- What a chunk of the result holds. -/
def bufOA (j : ℕ) : Buf (Elt F) ((c : Thread nD τ).loc main_v1) :=
  (outAv c j).view.write (Elt F) (m ((outAv c j).view.loc (c : Thread nD τ))) (vS m c j) Finset.univ
def bufOB (j : ℕ) : Buf (Elt F) ((c : Thread nD τ).loc main_v1) :=
  (outBv c j).view.write (Elt F) (m ((outBv c j).view.loc (c : Thread nD τ))) (vS m (peerX c) j) Finset.univ
def bufO (j : ℕ) : Buf (Elt F) ((c : Thread nD τ).loc main_v1) := if j < 32 then bufOA m c j else bufOB m c (j - 32)
theorem bufO_A (j : ℕ) (h : j < 32) : bufO m c j = bufOA m c j := if_pos h
theorem bufO_B (j : ℕ) : bufO m c (j + 32) = bufOB m c j := (if_neg (by omega)).trans (by rw [Nat.add_sub_cancel])

theorem join_out :
    iprop(S 0 32 (OutA m c) ∗ S 0 32 (fun j => own m c (outBv c j) fullShare (vS m (peerX c) j)))
      ⊢ (((c : Thread nD τ).loc main_v1) ↦{fullShare} outG m c : sProp 𝕄) := by
  obtain ⟨h1, h2, h3⟩ := out_keys c
  refine BI.Entails.trans ?_ (keys_join (F := F) (ℓ := (c : Thread nD τ).loc main_v1) 0 64 (setO c) (fun i => (i 0).val / 256) (keyO c) h1 h2 h3 (bufO m c)
    (m ((c : Thread nD τ).loc main_v1)) (outG m c) ?_)
  · rw [S_out]
    refine BIClass.sep_mono (S_mono fun j _ h => ?_) (S_mono fun j _ h => ?_)
    · rw [setO_A c j h, bufO_A m c j h]; unfold OutA own setOA bufOA; exact BI.Entails.refl _
    · rw [setO_B c j, bufO_B m c j]; unfold own setOB bufOB; exact BI.Entails.refl _
  · intro j _ hj i hi
    by_cases h : j < 32
    · rw [setO_A c j h] at hi
      rw [bufO_A m c j h]
      exact outA_apply m c j h i hi
    · obtain ⟨j, rfl⟩ : ∃ t, j = t + 32 := ⟨j - 32, by omega⟩
      rw [setO_B] at hi
      rw [bufO_B]
      exact outB_apply m c j (by omega) i hi

end Cert.KernelIdeal.Prf

end
-- ==== Proof.Ghost.lean ====
module

public import proofs.«01_k».proof.Proof.Geom

/-! What the launch deals each device: the shared cells' invariants, the positions, the tokens of the duties it pays, its
    semaphores at zero, and the credit of what the others owe it. -/

@[expose] public section

noncomputable section

namespace Cert.KernelIdeal.Prf

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (c : Dev nD)

/-! ## Families over the numbers below a bound -/

theorem S_fin (n : ℕ) (Φ : ℕ → sProp 𝕄) : bigSep (Finset.univ : Finset (Fin n)) (fun i => Φ i.val) = S 0 n Φ := by
  have h : (Finset.univ : Finset (Fin n)).map Fin.valEmbedding = Finset.Ico 0 n := by
    ext x
    simp only [Finset.mem_map, Finset.mem_univ, true_and, Fin.valEmbedding_apply, Finset.mem_Ico, Nat.zero_le]
    exact ⟨fun ⟨i, hi⟩ => hi ▸ i.isLt, fun hx => ⟨⟨x, hx⟩, rfl⟩⟩
  unfold S
  rw [← h, bigSep_map]; rfl

/-- The copy semaphore of a number. -/
def dsm (i : ℕ) : DmaSem sig := ⟨i % 100, Nat.mod_lt _ (by decide)⟩
theorem dsm_eq {i : ℕ} (q : DmaSem sig) (h : i = q.val) : dsm i = q := by
  subst h; exact Fin.ext (Nat.mod_eq_of_lt q.isLt)

/-- The semaphores of the shared cells, by number. -/
def dcs (i : ℕ) : SemLoc sig := if i = 0 then .reg barS else .dma (dsm (23 + i))
theorem csem_eq (i : Fin 77) : csem i = dcs i.val := by
  unfold csem dcs
  split
  · rfl
  · rw [dsm_eq ⟨23 + i.val, kcell_lt i⟩ rfl]

/-- A segment of a family of copy semaphores. -/
theorem seg (Φ : SemLoc sig → sProp 𝕄) (f : ℕ → SemLoc sig) (s : ℕ → DmaSem sig) (t n : ℕ) (h : ∀ j, j < n → f (j + t) = .dma (s j)) :
    S t (t + n) (fun j => Φ (f j)) = S 0 n (fun j => Φ (.dma (s j))) := by
  have := S_shift t 0 n (fun j => Φ (f j))
  rw [Nat.zero_add, Nat.zero_add] at this
  rw [this]
  exact S_congr fun j _ hj => by rw [h j hj]

/-- The four kinds of shared copy semaphore. -/
abbrev Sh (Φ : SemLoc sig → sProp 𝕄) : sProp 𝕄 :=
  iprop(S 0 8 (fun j => Φ (.dma (ysS j))) ∗ S 0 32 (fun j => Φ (.dma (yrS j))) ∗ S 0 4 (fun j => Φ (.dma (xsS j))) ∗ S 0 32 (fun j => Φ (.dma (xrS j))))

/-- The shared cells: the barrier, then the four kinds. -/
theorem cells_split (Φ : SemLoc sig → sProp 𝕄) :
    bigSep (Finset.univ : Finset (Fin 77)) (fun i => Φ (csem i)) = iprop(Φ (.reg barS) ∗ Sh Φ) := by
  have hd : ∀ i, i ≠ 0 → dcs i = .dma (dsm (23 + i)) := fun i hi => if_neg hi
  rw [bigSep_congr (fun i _ => by rw [csem_eq]), S_fin 77 (fun i => Φ (dcs i)), S_take (by decide), S_app (show 1 ≤ 9 by decide) (show 9 ≤ 77 by decide),
    S_app (show 9 ≤ 41 by decide) (show 41 ≤ 77 by decide), S_app (show 41 ≤ 45 by decide) (show 45 ≤ 77 by decide)]
  rw [show S (0 + 1) 9 (fun j => Φ (dcs j)) = _ from seg Φ dcs ysS 1 8 fun j hj => by
        rw [hd _ (by omega), dsm_eq (ysS j) (by rw [ysS_val]; omega)],
    show S 9 41 (fun j => Φ (dcs j)) = _ from seg Φ dcs yrS 9 32 fun j hj => by
        rw [hd _ (by omega), dsm_eq (yrS j) (by rw [yrS_val]; omega)],
    show S 41 45 (fun j => Φ (dcs j)) = _ from seg Φ dcs xsS 41 4 fun j hj => by
        rw [hd _ (by omega), dsm_eq (xsS j) (by rw [xsS_val]; omega)],
    show S 45 77 (fun j => Φ (dcs j)) = _ from seg Φ dcs xrS 45 32 fun j hj => by
        rw [hd _ (by omega), dsm_eq (xrS j) (by rw [xrS_val]; omega)]]
  rfl

/-! ## The kernel's own semaphores -/

def osem : Fin 100 → SemLoc sig := fun i => .dma i

theorem ownSemFacts : Pipeline.OwnSemFacts cfg0.spec osem := by
  refine ⟨?_, fun a b h => SemLoc.dma.inj h, fun k w => w.elim0⟩
  decide

/-- The semaphores of the local copies, at zero. -/
def Loc0 : sProp 𝕄 :=
  iprop(S 0 8 (fun j => semVal (cl c (.dma (aS j))) 0) ∗ S 0 8 (fun j => semVal (cl c (.dma (bS j))) 0)
    ∗ S 0 4 (fun j => semVal (cl c (.dma (stS j))) 0) ∗ S 0 4 (fun j => semVal (cl c (.dma (xtS j))) 0))

theorem ownSems0_eq : (Pipeline.ownSems0 (Ix := Unit) (Name := ℕ) (U := UU) (Lvl := ℕ) (Val := Elt F) (τ := τ) osem c : sProp 𝕄)
    = iprop(Loc0 c ∗ Sh (fun s => semVal (cl c s) 0)) := by
  unfold Pipeline.ownSems0 Loc0
  have ho : ∀ i : Fin 100, osem i = .dma (dsm i.val) := fun i => by rw [dsm_eq (i := i.val) i rfl]; rfl
  rw [bigSep_congr (fun i _ => by rw [ho]), S_fin 100 (fun i => semVal (cl c (.dma (dsm i))) 0),
    S_app (show 0 ≤ 8 by decide) (show 8 ≤ 100 by decide), S_app (show 8 ≤ 16 by decide) (show 16 ≤ 100 by decide),
    S_app (show 16 ≤ 20 by decide) (show 20 ≤ 100 by decide), S_app (show 20 ≤ 24 by decide) (show 24 ≤ 100 by decide),
    S_app (show 24 ≤ 32 by decide) (show 32 ≤ 100 by decide), S_app (show 32 ≤ 64 by decide) (show 64 ≤ 100 by decide),
    S_app (show 64 ≤ 68 by decide) (show 68 ≤ 100 by decide)]
  rw [show S 0 8 (fun i => (semVal (cl c (.dma (dsm i))) 0 : sProp 𝕄)) = _ from seg (fun s => semVal (cl c s) 0) (fun i => .dma (dsm i)) aS 0 8 fun j hj => by
        rw [dsm_eq (aS j) (by rw [aS_val]; omega)],
    show S 8 16 (fun i => (semVal (cl c (.dma (dsm i))) 0 : sProp 𝕄)) = _ from seg (fun s => semVal (cl c s) 0) (fun i => .dma (dsm i)) bS 8 8 fun j hj => by
        rw [dsm_eq (bS j) (by rw [bS_val]; omega)],
    show S 16 20 (fun i => (semVal (cl c (.dma (dsm i))) 0 : sProp 𝕄)) = _ from seg (fun s => semVal (cl c s) 0) (fun i => .dma (dsm i)) stS 16 4 fun j hj => by
        rw [dsm_eq (stS j) (by rw [stS_val]; omega)],
    show S 20 24 (fun i => (semVal (cl c (.dma (dsm i))) 0 : sProp 𝕄)) = _ from seg (fun s => semVal (cl c s) 0) (fun i => .dma (dsm i)) xtS 20 4 fun j hj => by
        rw [dsm_eq (xtS j) (by rw [xtS_val]; omega)],
    show S 24 32 (fun i => (semVal (cl c (.dma (dsm i))) 0 : sProp 𝕄)) = _ from seg (fun s => semVal (cl c s) 0) (fun i => .dma (dsm i)) ysS 24 8 fun j hj => by
        rw [dsm_eq (ysS j) (by rw [ysS_val]; omega)],
    show S 32 64 (fun i => (semVal (cl c (.dma (dsm i))) 0 : sProp 𝕄)) = _ from seg (fun s => semVal (cl c s) 0) (fun i => .dma (dsm i)) yrS 32 32 fun j hj => by
        rw [dsm_eq (yrS j) (by rw [yrS_val]; omega)],
    show S 64 68 (fun i => (semVal (cl c (.dma (dsm i))) 0 : sProp 𝕄)) = _ from seg (fun s => semVal (cl c s) 0) (fun i => .dma (dsm i)) xsS 64 4 fun j hj => by
        rw [dsm_eq (xsS j) (by rw [xsS_val]; omega)],
    show S 68 100 (fun i => (semVal (cl c (.dma (dsm i))) 0 : sProp 𝕄)) = _ from seg (fun s => semVal (cl c s) 0) (fun i => .dma (dsm i)) xrS 68 32 fun j hj => by
        rw [dsm_eq (xrS j) (by rw [xrS_val]; omega)]]
  have hsa : ∀ P Q R : sProp 𝕄, iprop((P ∗ Q) ∗ R) = iprop(P ∗ Q ∗ R) := fun P Q R => BI.Entails.antisymm BI.sep_assoc BI.sep_assoc'
  rw [hsa, hsa, hsa]

theorem unscopedSems0_eq : (unscopedSems0 c : sProp 𝕄) = semVal (barC c) 0 := by
  unfold unscopedSems0; rw [bigSep_eq_bigSepL_of_eq [SemLoc.reg barS] (by decide) (by decide)]; rfl

/-! ## The cells and the tokens -/

theorem kcell_injective : Function.Injective kcell := by
  rintro ⟨c, k⟩ ⟨c', k'⟩ h
  have h1 : c = c' := congrArg (fun g : GSem nD τ sig => g.1.1) h
  have h2 : csem k = csem k' := congrArg Prod.snd h
  subst h1
  refine Prod.ext rfl (Fin.ext ?_)
  show k.val = k'.val
  unfold csem at h2
  split at h2 <;> split at h2
  · omega
  · cases h2
  · cases h2
  · have := congrArg Fin.val (SemLoc.dma.inj h2)
    simp only at this; omega
def cells : Finset (GSem nD τ sig) := Finset.univ.map ⟨kcell, kcell_injective⟩

/-- The tokens of a device's cells, by number: which semaphore, which round, which duty. -/
def tokS (i : ℕ) : SemLoc sig × ℕ × Bool :=
  if i < 32 then (.dma (ysS i), i / 8, false) else if i < 64 then (.dma (yrS (i - 32)), 0, false)
  else if i < 96 then (.dma (xsS (i - 64)), (i - 64) / 4, false) else if i < 128 then (.dma (xrS (i - 96)), 0, false)
  else (.reg barS, 0, decide (i = 129))

/-- A semaphore's number. -/
def semNo : SemLoc sig → ℕ
  | .reg _ => 0
  | .dma q => q.val

def tokNo (x : SemLoc sig × ℕ × Bool) : ℕ :=
  if semNo x.1 = 0 then 128 + (if x.2.2 then 1 else 0) else if semNo x.1 < 32 then 8 * x.2.1 + (semNo x.1 - 24) else if semNo x.1 < 64 then semNo x.1
  else if semNo x.1 < 68 then 4 * x.2.1 + semNo x.1 else semNo x.1 + 28

theorem tokNo_tokS (i : ℕ) (h : i < 130) : tokNo (tokS i) = i := by
  unfold tokS
  split
  · show tokNo (.dma (ysS i), i / 8, false) = i
    unfold tokNo; simp only [semNo, ysS_val]
    rw [if_neg (by omega), if_pos (by omega)]; omega
  split
  · unfold tokNo; simp only [semNo, yrS_val]
    rw [if_neg (by omega), if_neg (by omega), if_pos (by omega)]; omega
  split
  · unfold tokNo; simp only [semNo, xsS_val]
    rw [if_neg (by omega), if_neg (by omega), if_neg (by omega), if_pos (by omega)]; omega
  split
  · unfold tokNo; simp only [semNo, xrS_val]
    rw [if_neg (by omega), if_neg (by omega), if_neg (by omega), if_neg (by omega)]; omega
  · unfold tokNo; simp only [semNo, if_true, decide_eq_true_eq]
    split <;> omega

abbrev tokOf (p : Dev nD × Fin 130) : GSem nD τ sig × ℕ × Bool := (cl p.1 (tokS p.2.val).1, (tokS p.2.val).2)
theorem tokOf_injective : Function.Injective tokOf := by
  rintro ⟨c, k⟩ ⟨c', k'⟩ h
  have h1 : c = c' := congrArg (fun g : GSem nD τ sig × ℕ × Bool => g.1.1.1) h
  have h2 : tokS k.val = tokS k'.val := Prod.ext (congrArg (fun g : GSem nD τ sig × ℕ × Bool => g.1.2) h) (congrArg (fun g : GSem nD τ sig × ℕ × Bool => g.2) h)
  subst h1
  refine Prod.ext rfl (Fin.ext ?_)
  have := congrArg tokNo h2
  rwa [tokNo_tokS _ k.isLt, tokNo_tokS _ k'.isLt] at this
def tks : Finset (GSem nD τ sig × ℕ × Bool) := Finset.univ.map ⟨tokOf, tokOf_injective⟩

def u₀ : UU :=
  (initOf (Pipeline.cells cfgs cellOf_inj) (Pipeline.launchToks cfgs cellOf_inj), (initOf cells tks, 1))

/-- The tokens of the duties on the cells of device `a` for the first neighbour, of `b` for the second, and of `c` itself. -/
def Tok (a b : Dev nD) : sProp 𝕄 :=
  iprop((S 0 32 (fun j => dutyTok ER (ysC c j) (j / 8) false) ∗ S 0 32 (fun j => dutyTok ER (xsC c j) (j / 4) false))
    ∗ (S 0 32 (fun j => dutyTok ER (yrC a j) 0 false) ∗ dutyTok ER (barC a) 0 false)
    ∗ (S 0 32 (fun j => dutyTok ER (xrC b j) 0 false) ∗ dutyTok ER (barC b) 0 true))

theorem tok_split : bigSep (Finset.univ : Finset (Fin 130)) (fun i => (dutyTok ER (tokOf (c, i)).1 (tokOf (c, i)).2.1 (tokOf (c, i)).2.2 : sProp 𝕄)) ⊢ Tok c c c := by
  rw [S_fin 130 (fun i => (dutyTok ER (cl c (tokS i).1) (tokS i).2.1 (tokS i).2.2 : sProp 𝕄)), S_app (show 0 ≤ 32 by decide) (show 32 ≤ 130 by decide),
    S_app (show 32 ≤ 64 by decide) (show 64 ≤ 130 by decide), S_app (show 64 ≤ 96 by decide) (show 96 ≤ 130 by decide),
    S_app (show 96 ≤ 128 by decide) (show 128 ≤ 130 by decide), S_take (show 128 < 130 by decide), S_take (show 128 + 1 < 130 by decide)]
  have e1 : ∀ (t : ℕ) (G : ℕ → sProp 𝕄), (∀ j, j < 32 → (dutyTok ER (cl c (tokS (j + t)).1) (tokS (j + t)).2.1 (tokS (j + t)).2.2 : sProp 𝕄) = G j) →
      S t (t + 32) (fun i => (dutyTok ER (cl c (tokS i).1) (tokS i).2.1 (tokS i).2.2 : sProp 𝕄)) = S 0 32 G := fun t G h => by
    have := S_shift t 0 32 (fun i => (dutyTok ER (cl c (tokS i).1) (tokS i).2.1 (tokS i).2.2 : sProp 𝕄))
    rw [Nat.zero_add, Nat.zero_add] at this
    rw [this]
    exact S_congr fun j _ hj => h j hj
  have t0 : ∀ i, i < 32 → tokS i = (.dma (ysS i), i / 8, false) := fun i h => if_pos h
  have t1 : ∀ i, i < 32 → tokS (i + 32) = (.dma (yrS i), 0, false) := fun i h => by
    unfold tokS; rw [if_neg (by omega), if_pos (by omega), Nat.add_sub_cancel]
  have t2 : ∀ i, i < 32 → tokS (i + 64) = (.dma (xsS i), i / 4, false) := fun i h => by
    unfold tokS; rw [if_neg (by omega), if_neg (by omega), if_pos (by omega), Nat.add_sub_cancel]
  have t3 : ∀ i, i < 32 → tokS (i + 96) = (.dma (xrS i), 0, false) := fun i h => by
    unfold tokS; rw [if_neg (by omega), if_neg (by omega), if_neg (by omega), if_pos (by omega), Nat.add_sub_cancel]
  have t4 : tokS 128 = (.reg barS, 0, false) := rfl
  have t5 : tokS (128 + 1) = (.reg barS, 0, true) := rfl
  rw [e1 0 (fun j => dutyTok ER (ysC c j) (j / 8) false) (fun j hj => by rw [Nat.add_zero, t0 j hj]),
    e1 32 (fun j => dutyTok ER (yrC c j) 0 false) (fun j hj => by rw [t1 j hj]),
    e1 64 (fun j => dutyTok ER (xsC c j) (j / 4) false) (fun j hj => by rw [t2 j hj]),
    e1 96 (fun j => dutyTok ER (xrC c j) 0 false) (fun j hj => by rw [t3 j hj]), t4, t5]
  unfold Tok
  iintro ⟨H0, H1, H2, H3, H4, H5, -⟩
  isplitl [H0 H2]
  · isplitl [H0] <;> iassumption
  isplitl [H1 H4]
  · isplitl [H1] <;> iassumption
  isplitl [H3] <;> iassumption

/-! ## The launch element, dealt -/

/-- What it deals device `c`. -/
def G : sProp 𝕄 :=
  iprop((bigSep Finset.univ fun k : Fin 77 => roundState ER (Rd m) (kcell (c, k)) 0)
    ∗ (bigSep Finset.univ fun k : Fin 77 => reached ER (kcell (c, k)) 0)
    ∗ (bigSep Finset.univ fun k : Fin 77 => atPos ER (kcell (c, k)) 0 ∅ 0) ∗ Tok c c c)

theorem fund_cells : BI.own (ER (initOf cells tks)) ⊢ (|==> bigSep Finset.univ (fun c => G m c) : sProp 𝕄) := by
  have hX (Φ : GSem nD τ sig → sProp 𝕄) : bigSep cells Φ = bigSep Finset.univ fun c : Dev nD => bigSep Finset.univ fun k : Fin 77 => Φ (kcell (c, k)) := by
    unfold cells; rw [bigSep_map, bigSep_univ_prod]; rfl
  have hT : bigSep tks (fun x => (dutyTok ER x.1 x.2.1 x.2.2 : sProp 𝕄)) ⊢ bigSep Finset.univ fun c : Dev nD => Tok c c c := by
    unfold tks; rw [bigSep_map, bigSep_univ_prod]
    exact bigSep_mono fun c _ => tok_split c
  iintro HX
  imod (Rounds.fund ER (Rd m) cells tks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := hT $$ Htok
  unfold G; simp only [bigSep_sep']
  isplitl [Hst']; · iexact Hst'
  isplitl [Hr']; · iexact Hr'
  isplitl [Hat'] <;> iassumption

theorem ownU_split (a : UR sig nD τ) (b : UB) : (ownU ((a, (b, 1)) : UU) : sProp 𝕄) ⊢ iprop(BI.own (EP a) ∗ BI.own (ER b)) :=
  BI.own_op_elim ((uEmb (nD := nD) (sig := sig) (Ix := Unit) (Val := Elt F) (Name := ℕ) (U := UU) (Lvl := ℕ)).toEmb.op_of_mem
    (Prod.mk_mem_op (URA.mem_op_one a) (URA.mem_one_op (b, (1 : Counters)))))

theorem launch_own : (ownU u₀ : sProp 𝕄)
    ⊢ |={Set.univ}=> iprop(BI.own (EP (initOf (Pipeline.cells cfgs cellOf_inj) (Pipeline.launchToks cfgs cellOf_inj))) ∗ bigSep Finset.univ (fun c => G m c)) := by
  unfold u₀
  iintro Hu
  ihave H := (ownU_split _ _) $$ Hu
  icases H with ⟨HP, HX⟩
  imod (fund_cells m) $$ HX with HG
  imodintro
  isplitl [HP] <;> iassumption

/-! ## The invariants allocated -/

/-- The positions of a device on its cells. -/
def Pos : sProp 𝕄 := iprop(atPos ER (barC c) 0 ∅ 0 ∗ Sh (fun s => atPos ER (cl c s) 0 ∅ 0))

/-- What device `c` then has. -/
def G' : sProp 𝕄 := iprop(recs m ∗ Pos c ∗ Tok c (peerY c) (peerX c) ∗ Loc0 c)

theorem core_alloc :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : Fin 77 => rec1 m (kcell (c, k))) ∗ Pos c ∗ Tok c c c ∗ Loc0 c) := by
  have hs : iprop(semVal (barC c) 0 ∗ Sh (fun s => (semVal (cl c s) 0 : sProp 𝕄))) ⊢ bigSep Finset.univ fun k : Fin 77 => semVal (kcell (c, k)) 0 :=
    Entails.of_eq (cells_split (fun s => (semVal (cl c s) 0 : sProp 𝕄))).symm
  have hp : (bigSep Finset.univ fun k : Fin 77 => (atPos ER (kcell (c, k)) 0 ∅ 0 : sProp 𝕄)) ⊢ Pos c :=
    Entails.of_eq (cells_split (fun s => (atPos ER (cl c s) 0 ∅ 0 : sProp 𝕄)))
  have hi : iprop((bigSep Finset.univ fun k : Fin 77 => semVal (kcell (c, k)) 0) ∗ bigSep Finset.univ fun k : Fin 77 => roundState ER (Rd m) (kcell (c, k)) 0)
      ⊢ (|={Set.univ}=> bigSep Finset.univ fun k => iprop(∃ κ : ℕ, cellInv ER (Rd m) κ (kcell (c, k))) : sProp 𝕄) := by
    rw [← bigSep_sep']
    exact (bigSep_mono fun k _ => (Rounds.body_intro ER (Rd m) (kcell (c, k))).trans inv_alloc).trans (bigSep_fupd _ _)
  rw [ownSems0_eq, unscopedSems0_eq]
  unfold G rec1
  simp only [bigSep_sep']
  iintro ⟨⟨Hl, Hs⟩, Hb, Hst, Hr, Hat, Htok⟩
  ihave Hv := hs $$ [Hs Hb]
  · isplitl [Hb] <;> iassumption
  imod hi $$ [Hv Hst] with Hinv
  · isplitl [Hv] <;> iassumption
  ihave Hp := hp $$ Hat
  imodintro
  isplitl [Hinv Hr]
  · isplitl [Hinv] <;> iassumption
  isplitl [Hp]; · iexact Hp
  isplitl [Htok] <;> iassumption

def eqY : Dev nD ≃ Dev nD := ⟨peerY, peerY, peerY_peerY, peerY_peerY⟩
def eqX : Dev nD ≃ Dev nD := ⟨peerX, peerX, peerX_peerX, peerX_peerX⟩

/-- Each token goes to the device that pays the duty. -/
theorem toks_around : (bigSep Finset.univ fun c : Dev nD => (Tok c c c : sProp 𝕄)) ⊢ bigSep Finset.univ fun c : Dev nD => Tok c (peerY c) (peerX c) := by
  unfold Tok
  rw [bigSep_sep', bigSep_sep' Finset.univ (fun c : Dev nD => iprop(S 0 32 (fun j => (dutyTok ER (yrC c j) 0 false : sProp 𝕄)) ∗ dutyTok ER (barC c) 0 false)),
    bigSep_sep' Finset.univ _ (fun c : Dev nD => iprop((S 0 32 (fun j => (dutyTok ER (yrC (peerY c) j) 0 false : sProp 𝕄)) ∗ dutyTok ER (barC (peerY c)) 0 false) ∗ _)),
    bigSep_sep' Finset.univ (fun c : Dev nD => iprop(S 0 32 (fun j => (dutyTok ER (yrC (peerY c) j) 0 false : sProp 𝕄)) ∗ dutyTok ER (barC (peerY c)) 0 false)),
    bigSep_univ_equiv eqY (fun c : Dev nD => iprop(S 0 32 (fun j => (dutyTok ER (yrC c j) 0 false : sProp 𝕄)) ∗ dutyTok ER (barC c) 0 false)),
    bigSep_univ_equiv eqX (fun c : Dev nD => iprop(S 0 32 (fun j => (dutyTok ER (xrC c j) 0 false : sProp 𝕄)) ∗ dutyTok ER (barC c) 0 true))]
  exact Entails.of_eq rfl

theorem bigSep_with {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k : Fin 77 => rec1 m (kcell (c, k))) ∗ Pos c ∗ Tok c c c ∗ Loc0 c) : sProp 𝕄)
      ⊢ bigSep Finset.univ (fun c => G' m c) := by
  have hr : (bigSep Finset.univ fun c : Dev nD => bigSep Finset.univ fun k : Fin 77 => rec1 m (kcell (c, k))) ⊢ recs m :=
    Entails.of_eq (bigSep_univ_prod (fun p : Dev nD × Fin 77 => rec1 m (kcell p))).symm
  have hj : iprop((bigSep Finset.univ fun c : Dev nD => (Pos c : sProp 𝕄)) ∗ (bigSep Finset.univ fun c : Dev nD => Tok c (peerY c) (peerX c)) ∗ bigSep Finset.univ fun c : Dev nD => Loc0 c)
      ⊢ bigSep Finset.univ fun c : Dev nD => iprop(Pos c ∗ Tok c (peerY c) (peerX c) ∗ Loc0 c) := by
    rw [bigSep_sep', bigSep_sep']
  rw [bigSep_sep', bigSep_sep', bigSep_sep']
  iintro ⟨HI, Hp, Ht, Hl⟩
  ihave #HR := hr $$ HI
  ihave Ht := (toks_around (F := F)) $$ Ht
  iapply (bigSep_with (R := recs m) (Φ := fun c => iprop(Pos c ∗ Tok c (peerY c) (peerX c) ∗ Loc0 c)) fun c _ => (show _ ⊢ G' m c from Entails.of_eq rfl))
  isplitr
  · iexact HR
  iapply hj
  isplitl [Hp]; · iexact Hp
  isplitl [Ht] <;> iassumption

/-- All devices' semaphores at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (fun c => G' m c) :=
  ((bigSep_mono fun c _ => core_alloc m c).trans (bigSep_fupd _ _)).trans (BI.fupd_mono (regroup m))

/-! ## The credit of what the neighbours owe -/

theorem creds : (Pipeline.launchCred O₀ c : sProp 𝕄)
    ⊢ iprop(cred (tallyAt (barC c) () 2) ∗ S 0 32 (fun j => cred (tallyAt (yrC c j) () Nb)) ∗ S 0 32 (fun j => cred (tallyAt (xrC c j) () Nb))) := by
  have hx : ∀ (s : SemLoc sig) (n : ℕ), (Pipeline.launchCred (fun d => tallyAt (cl (peerX d) s) () n) c : sProp 𝕄) ⊢ cred (tallyAt (cl c s) () n) := fun s n =>
    Pipeline.launchCred_tallyAt s peerX peerX peerX_peerX peerX_peerX () n c
  have hy : ∀ (s : SemLoc sig) (n : ℕ), (Pipeline.launchCred (fun d => tallyAt (cl (peerY d) s) () n) c : sProp 𝕄) ⊢ cred (tallyAt (cl c s) () n) := fun s n =>
    Pipeline.launchCred_tallyAt s peerY peerY peerY_peerY peerY_peerY () n c
  have e : (tallyAt (barC c) () 2 : CellTallies nD τ sig Unit) = tallyAt (barC c) () 1 + tallyAt (barC c) () 1 := (tallyAt_add _ _ 1 1).symm
  have hb : iprop(cred (tallyAt (barC c) () 1) ∗ cred (tallyAt (barC c) () 1)) ⊢ (cred (tallyAt (barC c) () 2) : sProp 𝕄) := by
    rw [e]; exact (cred_add _ _).2
  rw [show (O₀ : Dev nD → CellTallies nD τ sig Unit) = fun d => (((∑ j ∈ Finset.Ico 0 32, tallyAt (yrC (peerY d) j) () Nb) + ∑ j ∈ Finset.Ico 0 32, tallyAt (xrC (peerX d) j) () Nb)
      + tallyAt (barC (peerX d)) () 1) + tallyAt (barC (peerY d)) () 1 from rfl,
    Pipeline.launchCred_add, Pipeline.launchCred_add, Pipeline.launchCred_add, Pipeline.launchCred_sum, Pipeline.launchCred_sum]
  iintro ⟨⟨⟨Hyr, Hxr⟩, Hbx⟩, Hby⟩
  isplitl [Hbx Hby]
  · iapply hb
    isplitl [Hbx]
    · iapply (hx (.reg barS) 1) $$ Hbx
    · iapply (hy (.reg barS) 1) $$ Hby
  isplitl [Hyr]
  · iapply (S_mono fun j _ _ => hy (.dma (yrS j)) Nb) $$ Hyr
  · iapply (S_mono fun j _ _ => hx (.dma (xrS j)) Nb) $$ Hxr

end Cert.KernelIdeal.Prf

end
-- ==== Proof.Launch.lean ====
module

public import proofs.«01_k».proof.Proof.Ghost
public import Idealize.ShloMosaic.Adequacy
public import Idealize.ShloMosaic.Init
public import Idealize.ShloMosaic.Lib.Pipeline.CollectiveSegs

/-! The launch: what each device starts with taken apart into what the body needs, what the body leaves put together
    again, and the run of the whole program. -/

@[expose] public section

noncomputable section

namespace Cert.KernelIdeal.Prf

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (c : Dev nD)

/-- The scratch buffers, each at any contents. -/
def Scr : sProp 𝕄 :=
  iprop(Any (F := F) c cc0_scratch0 ∗ Any (F := F) c cc0_scratch1 ∗ Any (F := F) c cc0_scratch2 ∗ Any (F := F) c cc0_scratch3 ∗ Any (F := F) c cc0_scratch4 ∗ Any (F := F) c cc0_scratch5)

theorem scopedRest_eq : (Pipeline.scopedRest (Ix := Unit) (Name := ℕ) (U := UU) (Lvl := ℕ) (Val := Elt F) (cfg0.spec) c : sProp 𝕄) = Scr c := scopedRest0_eq c

/-- The argument at a share, and the result. -/
def xP (q : PosShare TreeShare) : sProp 𝕄 := ((c : Thread nD τ).loc main_arg0) ↦{q} m ((c : Thread nD τ).loc main_arg0)
def oP (f : Buf (Elt F) ((c : Thread nD τ).loc main_v1)) : sProp 𝕄 := ((c : Thread nD τ).loc main_v1) ↦{fullShare} f

/-- The credit of what the neighbours owe. -/
def Crd : sProp 𝕄 :=
  iprop(cred (tallyAt (barC c) () 2) ∗ S 0 32 (fun j => cred (tallyAt (yrC c j) () Nb)) ∗ S 0 32 (fun j => cred (tallyAt (xrC c j) () Nb)))

/-! ## From what the launch deals to what the body takes -/

theorem mk_Lres : xP m c fullShare.right ⊢ S 0 32 (Lres m c) := split_x m c

theorem mk_A : iprop(S 0 8 (fun j => semVal (cl c (.dma (aS j))) 0) ∗ Any (F := F) c cc0_scratch0) ⊢ S 0 8 (Aslot c) :=
  (sep_mono_right (split_a c)).trans (Entails.of_eq (S_sep 0 8 _ _).symm)
theorem mk_B : iprop(S 0 8 (fun j => semVal (cl c (.dma (bS j))) 0) ∗ Any (F := F) c cc0_scratch1) ⊢ S 0 8 (Bslot c) :=
  (sep_mono_right (split_b c)).trans (Entails.of_eq (S_sep 0 8 _ _).symm)

theorem mk_Yres : iprop(S 0 32 (fun j => dutyTok ER (ysC c j) (j / 8) false) ∗ S 0 32 (fun j => dutyTok ER (yrC (peerY c) j) 0 false)) ⊢ S 0 32 (Yres₀ (F := F) c) :=
  Entails.of_eq (S_sep 0 32 _ _).symm

theorem mk_Yslot : iprop(recs m ∗ S 0 8 (fun j => atPos ER (ysC c j) 0 ∅ 0) ∗ Any (F := F) c cc0_scratch2) ⊢ S 0 8 (Yslot c) := by
  refine (sep_mono_right ((sep_mono_right (split_ys c)).trans (Entails.of_eq (S_sep 0 8 _ _).symm))).trans ?_
  refine bigSep_with fun j hj => ?_
  have h0 : j / 8 = 0 := by have := (Finset.mem_Ico.mp hj).2; omega
  have h : iprop(recs m ∗ atPos ER (ysC c j) 0 ∅ 0 ∗ some' c (ysV j)) ⊢ Yslot c j := by
    unfold Yslot; rw [h0]
    iintro ⟨#HR, Ha, Hs⟩
    ihave H := (recs_ys m c j) $$ HR
    unfold rec1
    icases H with ⟨-, H⟩
    isplitl [Ha]; · iexact Ha
    isplitl [H] <;> iassumption
  exact h

theorem mk_Mres : iprop(S 0 32 (fun j => atPos ER (yrC c j) 0 ∅ 0) ∗ S 0 32 (fun j => cred (tallyAt (yrC c j) () Nb)) ∗ S 0 32 (fun j => dutyTok ER (xsC c j) (j / 4) false)
    ∗ S 0 32 (fun j => dutyTok ER (xrC (peerX c) j) 0 false) ∗ S 0 32 (fun j => some' c (outAv c j))) ⊢ S 0 32 (Mres₀ (F := F) c) := by
  refine Entails.of_eq (Eq.trans ?_ (S_sep 0 32 _ _).symm)
  rw [S_sep, S_sep, S_sep]

theorem mk_Xslot : iprop(recs m ∗ S 0 4 (fun j => semVal (cl c (.dma (stS j))) 0) ∗ S 0 4 (fun j => atPos ER (xsC c j) 0 ∅ 0) ∗ Any (F := F) c cc0_scratch4) ⊢ S 0 4 (Xslot c) := by
  refine (sep_mono_right ((sep_mono_right ((sep_mono_right (split_xs c)).trans (Entails.of_eq (S_sep 0 4 _ _).symm))).trans (Entails.of_eq (S_sep 0 4 _ _).symm))).trans ?_
  refine bigSep_with fun j hj => ?_
  have h0 : j / 4 = 0 := by have := (Finset.mem_Ico.mp hj).2; omega
  have h : iprop(recs m ∗ semVal (cl c (.dma (stS j))) 0 ∗ atPos ER (xsC c j) 0 ∅ 0 ∗ some' c (xsV j)) ⊢ Xslot c j := by
    unfold Xslot; rw [h0]
    iintro ⟨#HR, Hv, Ha, Hs⟩
    ihave H := (recs_xs m c j) $$ HR
    unfold rec1
    icases H with ⟨-, H⟩
    isplitl [Hv]; · iexact Hv
    isplitl [Ha]; · iexact Ha
    isplitl [H] <;> iassumption
  exact h

theorem mk_Dres : iprop(S 0 32 (fun j => atPos ER (xrC c j) 0 ∅ 0) ∗ S 0 32 (fun j => cred (tallyAt (xrC c j) () Nb)) ∗ S 0 32 (fun j => some' c (outBv c j))) ⊢ S 0 32 (Dres (F := F) c) := by
  refine Entails.of_eq (Eq.trans ?_ (S_sep 0 32 _ _).symm)
  rw [S_sep]

theorem mk_Ybuf : Any (F := F) c cc0_scratch3 ⊢ YBuf c := by
  unfold YBuf; rw [Finset.range_eq_Ico]; exact split_yr c
theorem mk_Xbuf : Any (F := F) c cc0_scratch5 ⊢ XBuf c := by
  unfold XBuf; rw [Finset.range_eq_Ico]; exact split_xr c

theorem mk_out (f : Buf (Elt F) ((c : Thread nD τ).loc main_v1)) :
    oP c f ⊢ iprop(S 0 32 (fun j => some' c (outAv c j)) ∗ S 0 32 (fun j => some' c (outBv c j))) := split_out c f

theorem mk_Start (f : Buf (Elt F) ((c : Thread nD τ).loc main_v1)) :
    iprop(recs m ∗ Crd c ∗ Pos c ∗ Tok c (peerY c) (peerX c) ∗ Loc0 c ∗ xP m c fullShare.right ∗ oP c f ∗ Scr c) ⊢ Start m c := by
  unfold Start Crd Pos Tok Loc0 Scr BarRes
  iintro ⟨#HR, ⟨Hc1, Hc2, Hc3⟩, ⟨Hpb, Hpys, Hpyr, Hpxs, Hpxr⟩, ⟨⟨Ht1, Ht2⟩, ⟨Ht3, Ht4⟩, Ht5, Ht6⟩, ⟨Hva, Hvb, Hvst, Hvxt⟩, Hx, Ho, H0, H1, H2, H3, H4, H5⟩
  ihave Ho := (mk_out c f) $$ Ho
  icases Ho with ⟨HoA, HoB⟩
  isplitl [Hx Hva H0 Hvb H1]
  · isplitl [Hx]; · iapply (mk_Lres m c) $$ Hx
    isplitl [Hva H0]
    · iapply (mk_A c)
      isplitl [Hva] <;> iassumption
    iapply (mk_B c)
    isplitl [Hvb] <;> iassumption
  isplitl [Ht1 Ht3 Hpys H2 Hpyr Hc2 Ht2 Ht5 HoA Hvst Hpxs H4 Hpxr Hc3 HoB Hvxt]
  · isplitl [Ht1 Ht3]
    · iapply (mk_Yres c)
      isplitl [Ht1] <;> iassumption
    isplitl [Hpys H2]
    · iapply (mk_Yslot m c)
      isplitr; · iexact HR
      isplitl [Hpys] <;> iassumption
    isplitl [Hpyr Hc2 Ht2 Ht5 HoA]
    · iapply (mk_Mres c)
      isplitl [Hpyr]; · iexact Hpyr
      isplitl [Hc2]; · iexact Hc2
      isplitl [Ht2]; · iexact Ht2
      isplitl [Ht5] <;> iassumption
    isplitl [Hvst Hpxs H4]
    · iapply (mk_Xslot m c)
      isplitr; · iexact HR
      isplitl [Hvst]; · iexact Hvst
      isplitl [Hpxs] <;> iassumption
    isplitl [Hpxr Hc3 HoB]
    · iapply (mk_Dres c)
      isplitl [Hpxr]; · iexact Hpxr
      isplitl [Hc3] <;> iassumption
    iexact Hvxt
  isplitl [Hpb]; · iexact Hpb
  isplitl [Hc1]; · iexact Hc1
  isplitl [Ht4]; · iexact Ht4
  isplitl [Ht6]; · iexact Ht6
  isplitl [H3]
  · iapply (mk_Ybuf c) $$ H3
  · iapply (mk_Xbuf c) $$ H5

/-! ## From what the body leaves to what the launch takes back -/

/-- A later lap of a ring of semaphores is the first one. -/
theorem lap (t n : ℕ) (s : ℕ → DmaSem sig) (h : ∀ j, s (j + t) = s j) :
    S t (t + n) (fun j => (semVal (cl c (.dma (s j))) 0 : sProp 𝕄)) = S 0 n (fun j => semVal (cl c (.dma (s j))) 0) :=
  seg (fun s => semVal (cl c s) 0) (fun j => .dma (s j)) s t n fun j _ => by rw [h j]

theorem un_A : S 32 40 (Aslot (F := F) c) ⊢ iprop(S 0 8 (fun j => semVal (cl c (.dma (aS j))) 0) ∗ Any (F := F) c cc0_scratch0) :=
  (Entails.of_eq (S_sep 32 40 _ _)).trans
    (BIClass.sep_mono (Entails.of_eq (lap c 32 8 aS fun j => sem8_congr _ (by omega))) (join_a c 32))
theorem un_B : S 32 40 (Bslot (F := F) c) ⊢ iprop(S 0 8 (fun j => semVal (cl c (.dma (bS j))) 0) ∗ Any (F := F) c cc0_scratch1) :=
  (Entails.of_eq (S_sep 32 40 _ _)).trans
    (BIClass.sep_mono (Entails.of_eq (lap c 32 8 bS fun j => sem8_congr _ (by omega))) (join_b c 32))
theorem un_Y : S 24 32 (YEnd (F := F) c) ⊢ iprop(S 0 8 (fun j => semVal (cl c (.dma (ysS j))) 0) ∗ Any (F := F) c cc0_scratch2) :=
  (Entails.of_eq (S_sep 24 32 _ _)).trans
    (BIClass.sep_mono (Entails.of_eq (lap c 24 8 ysS fun j => sem8_congr _ (by omega))) (join_ys c 24))
theorem un_Yrcv : S 0 32 (Yrcv (F := F) c) ⊢ iprop(S 0 32 (fun j => semVal (cl c (.dma (yrS j))) 0) ∗ Any (F := F) c cc0_scratch3) :=
  (Entails.of_eq (S_sep 0 32 _ _)).trans (sep_mono_right (join_yr c))
theorem un_X : S 28 32 (XEnd m c) ⊢ iprop(S 0 4 (fun j => semVal (cl c (.dma (stS j))) 0) ∗ S 0 4 (fun j => semVal (cl c (.dma (xsS j))) 0)
    ∗ Any (F := F) c cc0_scratch4 ∗ S 28 32 (OutA m c)) :=
  (Entails.of_eq (S_sep 28 32 _ _)).trans
    (BIClass.sep_mono (Entails.of_eq (lap c 28 4 stS fun j => sem4_congr _ (by omega)))
      ((Entails.of_eq (S_sep 28 32 _ _)).trans
        (BIClass.sep_mono (Entails.of_eq (lap c 28 4 xsS fun j => sem4_congr _ (by omega)))
          ((Entails.of_eq (S_sep 28 32 _ _)).trans (sep_mono_left (join_xs c 28))))))
theorem un_T : S 28 32 (TEnd m c) ⊢ iprop(S 0 4 (fun j => semVal (cl c (.dma (xtS j))) 0) ∗ S 28 32 (OutB m c)) :=
  (Entails.of_eq (S_sep 28 32 _ _)).trans (sep_mono_left (Entails.of_eq (lap c 28 4 xtS fun j => sem4_congr _ (by omega))))
theorem un_OutB : iprop(S 0 28 (OutB m c) ∗ S 28 32 (OutB m c)) ⊢ iprop(S 0 32 (fun j => own m c (outBv c j) fullShare (vS m (peerX c) j)) ∗ Any (F := F) c cc0_scratch5) := by
  rw [← S_app (by decide) (by decide)]
  refine (Entails.of_eq (S_sep 0 32 _ _)).trans (sep_mono_right ?_)
  exact (S_mono fun j _ _ => own_some m c (xrV j) _).trans (join_xr c)
theorem un_OutA : iprop(S 0 28 (OutA m c) ∗ S 28 32 (OutA m c)) ⊢ S 0 32 (OutA m c) := Entails.of_eq (S_app (by decide) (by decide) _).symm

theorem un_End : iprop(semVal (barC c) 0 ∗ End m c) ⊢ iprop((unscopedSems0 c ∗ oP c (outG m c)) ∗ Pipeline.ownSems0 osem c ∗ Scr (F := F) c) := by
  have ho : iprop(S 0 32 (OutA m c) ∗ S 0 32 (fun j => own m c (outBv c j) fullShare (vS m (peerX c) j))) ⊢ oP c (outG m c) := join_out m c
  rw [ownSems0_eq, unscopedSems0_eq]
  unfold End Loc0 Scr
  iintro ⟨Hb, HA, HB, HYr, HOA, HXr, HOB, HX, HY, HT⟩
  ihave HA := (un_A c) $$ HA
  ihave HB := (un_B c) $$ HB
  ihave HYr := (un_Yrcv c) $$ HYr
  ihave HX := (un_X m c) $$ HX
  ihave HY := (un_Y c) $$ HY
  ihave HT := (un_T m c) $$ HT
  icases HA with ⟨HA, H0⟩
  icases HB with ⟨HB, H1⟩
  icases HYr with ⟨HYr, H3⟩
  icases HX with ⟨Hst, Hxs, H4, HOA'⟩
  icases HY with ⟨HY, H2⟩
  icases HT with ⟨HT, HOB'⟩
  ihave HOB := (un_OutB m c) $$ [HOB HOB']
  · isplitl [HOB] <;> iassumption
  icases HOB with ⟨HOB, H5⟩
  ihave HOA := (un_OutA m c) $$ [HOA HOA']
  · isplitl [HOA] <;> iassumption
  isplitl [Hb HOA HOB]
  · isplitl [Hb]; · iexact Hb
    iapply ho
    isplitl [HOA] <;> iassumption
  isplitl [HA HB Hst HT HY HYr Hxs HXr]
  · isplitl [HA HB Hst HT]
    · isplitl [HA]; · iexact HA
      isplitl [HB]; · iexact HB
      isplitl [Hst] <;> iassumption
    isplitl [HY]; · iexact HY
    isplitl [HYr]; · iexact HYr
    isplitl [Hxs]; · iexact Hxs
    iexact HXr
  isplitl [H0]; · iexact H0
  isplitl [H1]; · iexact H1
  isplitl [H2]; · iexact H2
  isplitl [H3]; · iexact H3
  isplitl [H4] <;> iassumption

/-! ## The region -/

/-- What a device enters the region with. -/
def start : sProp 𝕄 :=
  iprop(recs m ∗ levAts L lv ∗ Crd c ∗ Pos c ∗ Tok c (peerY c) (peerX c) ∗ Loc0 c ∗ xP m c fullShare ∗ oP c (m ((c : Thread nD τ).loc main_v1)))
/-- What it keeps at the end. -/
def fin : sProp 𝕄 := iprop((unscopedSems0 c ∗ oP c (outG m c)) ∗ xP m c fullShare.left)

def Φ₀ : sProp 𝕄 := iprop(start m c ∗ Scr c)
def Φ₁ : sProp 𝕄 := iprop(fin m c ∗ Pipeline.ownSems0 osem c ∗ Scr c)

def dats (_ : Fin 1) (c : Dev nD) : Dat τ (Elt F) Unit ℕ UU ℕ cfg0 c where
  A w := (s₀ m ρ).mem ((cfg0.win w).arr.view.loc (c : Thread nD τ))
  after w _ := Fin.elim0 w
  Φ t := match t with
    | ⟨0, _⟩ => Φ₀ m c
    | ⟨_ + 1, _⟩ => Φ₁ m c
  q _ := fullShare
  owed t := match t with
    | ⟨0, _⟩ => O₀ c
    | ⟨_ + 1, _⟩ => 0

/-- The body, from what the region is entered with to what it leaves. -/
theorem sound_body {K : PUnit → sProp 𝕄} :
    iprop(Φ₀ m c ∗ owesE c (O₀ c)) ⊢ iprop(((Φ₁ m c ∗ owesE c 0) -∗ K ⟨⟩) -∗ W c bodyP K) := by
  have hx : xP m c fullShare ⊢ iprop(xP m c fullShare.left ∗ xP m c fullShare.right) := (pointsTo_share (PosShare.mem_left_op_right fullShare)).1
  have hw := wp_body m c (Φ := K)
  unfold Φ₀ Φ₁ start fin
  iintro ⟨⟨⟨#HR, #HL, Hc, Hp, Ht, Hl, Hx, Ho⟩, Hs⟩, HO⟩ Hk
  ihave Hx := hx $$ Hx
  icases Hx with ⟨Hxl, Hxr⟩
  ihave HS := (mk_Start m c (m ((c : Thread nD τ).loc main_v1))) $$ [Hc Hp Ht Hl Hxr Ho Hs]
  · isplitr; · iexact HR
    isplitl [Hc]; · iexact Hc
    isplitl [Hp]; · iexact Hp
    isplitl [Ht]; · iexact Ht
    isplitl [Hl]; · iexact Hl
    isplitl [Hxr]; · iexact Hxr
    isplitl [Ho] <;> iassumption
  iapply hw $$ [HO HS]
  · isplitr; · iexact HR
    isplitr; · iexact HL
    isplitl [HO] <;> iassumption
  iintro ⟨HO, Hb, HE⟩
  ihave HE := (un_End m c) $$ [Hb HE]
  · isplitl [Hb] <;> iassumption
  icases HE with ⟨HE, Hos, Hscr⟩
  iapply Hk
  isplitr [HO]
  · isplitl [HE Hxl]
    · isplitl [HE] <;> iassumption
    isplitl [Hos] <;> iassumption
  iexact HO

theorem body_run : defs₀ (F := F) .tc cfg0.body (cfg0.bodyArgs t0_0 (cfg0.slots t0_0)) = bodyP := body_eq

theorem sound_point (c : Dev nD) (p : Prog (TpuEff nD τ sig (Elt F) Λ₀ .tc) PUnit) (hp : p = bodyP) :
    iprop(Φ₀ m c ∗ (dats m ρ 0 c).owesAt () t0_0.castSucc ∗ BI.emp) ⊢ W c p (fun _ => iprop(Φ₁ m c ∗ (dats m ρ 0 c).owesAt () t0_0.succ ∗ BI.emp)) := by
  subst hp
  have h := sound_body m c (K := fun _ => iprop(Φ₁ m c ∗ (dats m ρ 0 c).owesAt () t0_0.succ ∗ BI.emp))
  unfold Pipeline.Dat.owesAt Pipeline.owesWithin at h ⊢
  rw [show (dats m ρ 0 c).owed t0_0.castSucc = O₀ c from rfl]
  rw [show (dats m ρ 0 c).owed t0_0.succ = 0 from rfl] at h ⊢
  iintro ⟨HΦ, ⟨%W, %hW, HO⟩, -⟩
  iapply h $$ [HΦ HO]
  · isplitl [HΦ]; · iexact HΦ
    unfold owesE; iexists _; iexact HO
  unfold owesE
  iintro ⟨HΦ, ⟨%W', HO⟩⟩
  isplitl [HΦ]; · iexact HΦ
  isplitl [HO]
  · iexists W'
    isplitr; · ipureintro; exact fun _ _ => Or.inl trivial
    iexact HO
  iempintro

set_option maxRecDepth 60000 in
theorem body_obligation (c : Dev nD) : BodyObligation (dats (F := F) m ρ 0 c) (defs₀ (F := F)) 𝒱₀ () Set.univ := fun t => by
  obtain rfl := fin_N0 t
  have hemp : ∀ Φ : Fin cfg0.W → sProp 𝕄, bigSep Finset.univ Φ = (BI.emp : sProp 𝕄) := fun Φ => bigSep_empty
  rw [hemp, hemp]
  exact sound_point m ρ c _ body_run

/-! ## The run -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  have hc : (Pipeline.launchCred O₀ c : sProp 𝕄) ⊢ Crd c := creds c
  have hx : (((c : Thread nD τ).loc main_arg0) ↦{fullShare} m ((c : Thread nD τ).loc main_arg0) : sProp 𝕄) ⊢ xP m c fullShare := Entails.of_eq rfl
  have ho : (((c : Thread nD τ).loc main_v1) ↦{fullShare} m ((c : Thread nD τ).loc main_v1) : sProp 𝕄) ⊢ oP c (m ((c : Thread nD τ).loc main_v1)) := Entails.of_eq rfl
  rw [Pipeline.unscopedRestP_none, unscopedRest0_eq]
  unfold start G'
  iintro ⟨⟨Hx, Ho⟩, Hlev, Hcr, -, HR, Hp, Ht, Hl⟩
  ihave Hc := hc $$ Hcr
  ihave Hx := hx $$ Hx
  ihave Ho := ho $$ Ho
  imodintro
  isplitl
  · isplitl [HR]; · iexact HR
    isplitl [Hlev]; · iexact Hlev
    isplitl [Hc]; · iexact Hc
    isplitl [Hp]; · iexact Hp
    isplitl [Ht]; · iexact Ht
    isplitl [Hl]; · iexact Hl
    isplitl [Hx] <;> iassumption
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest_eq]
  unfold Φ₀
  iintro ⟨Hs, -, Hr⟩
  isplitl [Hs] <;> iassumption

theorem phi1_exit (c : Dev nD) :
    (dats m ρ 0 c).Φ (Fin.last cfg0.N) ⊢ iprop(fin m c ∗ Pipeline.ownSems0 osem c ∗ Pipeline.scopedRest cfg0.spec c) := by
  rw [show (dats m ρ 0 c).Φ (Fin.last cfg0.N) = Φ₁ m c from rfl, scopedRest_eq]
  exact Entails.of_eq rfl

/-- What is read of a device at the end. -/
def QY (c : Dev nD) (s : MemSt nD τ sig (Elt F)) : Prop :=
  (∀ sm : SemLoc sig, sm.isScoped .tc = false → s.sem ((c.tc : Thread nD τ), sm) = 0)
    ∧ s.mem ((c : Thread nD τ).loc main_v1) = outG m c ∧ s.mem ((c : Thread nD τ).loc main_arg0) = m ((c : Thread nD τ).loc main_arg0)

theorem read_end (c : Dev nD) (s' : Phys nD τ sig (Elt F)) : iprop(fin m c ∗ emp ∗ SI s') ⊢ |={Set.univ}=> iprop(⌜QY m c s'.mem⌝ ∗ SI s') := by
  have hu := Pipeline.unscopedSems0_read (X := (unscopedSems0 c : sProp 𝕄)) (c := c) fupd_intro s'
  unfold fin oP xP
  iintro ⟨⟨⟨Hu, Ho⟩, Hx⟩, -, HSI⟩
  icombine HSI Ho gives %h1
  icombine HSI Hx gives %h2
  imod hu $$ [Hu HSI] with ⟨%h3, HSI⟩
  · isplitl [Hu] <;> iassumption
  imodintro
  isplitr
  · ipureintro
    exact ⟨h3, Buf.eq_of_forall_mem_univ h1, Buf.eq_of_forall_mem_univ h2⟩
  iexact HSI

set_option maxRecDepth 8000 in
/-- At the mesh of sixteen devices, for any float values, from any memory with zero counters: every weakly fair execution
    of @main terminates, and every final state has each device's result at `outG`, the argument unchanged and every semaphore
    counter at zero. -/
theorem run_main : θ_run defs (onTc (τ := τ) (main (F := F))) (s₀ m ρ)
    (fun r => (∀ c : Dev nD, r.2.mem ((c : Thread nD τ).loc main_v1) = outG m c ∧ r.2.mem ((c : Thread nD τ).loc main_arg0) = m ((c : Thread nD τ).loc main_arg0))
      ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := fun c => (body_obligation m ρ c).loose) (hne := block_pos0) (harr := arr_whole0) (hstage := stage_whole0) (hshare := fun _ w => w.elim0)
    (hdistinct := winFacts0.arr_inj)
    (O₀ := O₀) (howed₀ := fun _ => rfl) (howedN := fun _ => rfl)
    (L := L) (lv := lv) (hL := L_of_ne) (hwaits := fun c => Pipeline.cellsWaits_intro cfgs (dats m ρ) () 0 c fun w _ _ => w.elim0)
    (G := fun c => G m c) (G' := fun c => G' m c) (u₀ := u₀)
    (hu₀ := launch_own m)
    (hglob := glob m)
    (hA := fun _ _ => rfl) (hpf := fun _ k => k.elim0)
    (X := fun c => start m c) (Y := fun c => fin m c) (Z := fun _ => iprop(emp))
    (hX := start_intro m ρ) (hin := phi0_intro m ρ) (hout := phi1_exit m ρ)
    (QY := QY m) (hY := read_end m)
    (hQ := fun _ h hs => ⟨fun c => (h c).2.2.2, sem_eq_zero hs fun c => (h c).2.2.1⟩)

end Cert.KernelIdeal.Prf

end
-- ==== Proof.Value.lean ====
module

public import proofs.«01_k».proof.Proof.Launch
public import proofs.«01_k».proof.Proof.Gen.ReferenceIdeal
public import proofs.«01_k».proof.Proof.Gen.ReferenceIdeal.Run
public import Idealize.ShloMosaic.Lib.Layout
public import Idealize.ShloMosaic.Lib.IdealHost
public import Idealize.ShloMosaic.PureOps.Ideal
public import Idealize.ShloMosaic.PureOps.Reduce
public import Idealize.ShloMosaic.Lib.Pipeline.Value

/-! The value: over exact arithmetic each device's result is its block of the sum of the two slices of the whole
    argument. -/

@[expose] public section

noncomputable section

namespace Cert.KernelIdeal.Prf

open Cert.KernelIdeal Cert.KernelIdeal.Gen
open Idealize.ShloMosaic
open Idealize.ShloMosaic.TcCoe

section Read
variable {F : FTy → Type} [FloatOps F]
variable (m : (ℓ : Loc nD τ sig) → Buf (Elt F) ℓ)

/-- An index of a device's argument. -/
def tri (r q : ℕ) (hr : r < 16384) (hq : q < 2048) : S1x16384x2048.Idx := fun a => ⟨(![0, r, q] : Fin 3 → ℕ) a, by
  revert a; intro (a : Fin 3); fin_cases a
  · show 0 < 1; decide
  · exact hr
  · exact hq⟩

/-- An index of a chunk with its unit axis. -/
def tri1 (p : S256x1024.Idx) : S1x256x1024.Idx := fun a => ⟨(![0, (p 0).val, (p 1).val] : Fin 3 → ℕ) a, by
  revert a; intro (a : Fin 3); fin_cases a
  · show 0 < 1; decide
  · exact (p 0).isLt
  · exact (p 1).isLt⟩

theorem tri1_pos (p : S256x1024.Idx) : (S1x256x1024.rowMajor (tri1 p)).val = (S256x1024.rowMajor p).val := by
  rw [Shape.rowMajor_val_three, Shape.rowMajor_val_two]
  show (0 * 256 + (p 0).val) * 1024 + (p 1).val = (p 0).val * 1024 + (p 1).val
  omega

theorem vA_apply (d : Dev nD) (k : ℕ) (p : S256x1024.Idx) (r q : ℕ) (hr : r < 16384) (hq : q < 2048)
    (er : r = 8192 * (d.val / 8) + 256 * (k % 32) + (p 0).val) (eq : q = 1024 - 1024 * (d.val / 4 % 2) + (p 1).val) :
    vA m d k p = (m ((d : Thread nD τ).loc main_arg0) : S1x16384x2048.Idx → Elt F .f32) (tri r q hr hq) := by
  unfold vA
  have e := Shape.reshapeEquiv_eq_of_rowMajor squeezes_S1x256x1024_S256x1024.numel_eq (tri1_pos p)
  show (m ((d : Thread nD τ).loc main_arg0) : S1x16384x2048.Idx → Elt F .f32)
    (((View.whole main_arg0).slice (Rect.unit (s := S1x16384x2048) (k0_off1 d (BitVec.ofNat 32 (256 * (ck k).val))) S1x256x1024.size (k0_off1_inb d (ck k)))).emb
      (Shape.reshapeEquiv squeezes_S1x256x1024_S256x1024.numel_eq p)) = _
  rw [e]
  refine congrArg (m ((d : Thread nD τ).loc main_arg0) : S1x16384x2048.Idx → Elt F .f32) (funext fun a => Fin.ext ?_)
  refine (ValueKit.view_emb_slice_whole_unit_val main_arg0 (k0_off1 d (BitVec.ofNat 32 (256 * (ck k).val))) S1x256x1024.size (k0_off1_inb d (ck k)) (tri1 p) a).trans ?_
  refine (congrArg (fun n => n + (tri1 p a).val) (congrFun (k0_off1_eq d (ck k)) a)).trans ?_
  fin_cases a
  · rfl
  · exact er.symm
  · exact eq.symm

theorem vB_apply (d : Dev nD) (k : ℕ) (p : S256x1024.Idx) (r q : ℕ) (hr : r < 16384) (hq : q < 2048)
    (er : r = 8192 * (d.val / 8) + 256 * (k % 32) + (p 0).val) (eq : q = 1024 * (d.val / 4 % 2) + (p 1).val) :
    vB m d k p = (m ((d : Thread nD τ).loc main_arg0) : S1x16384x2048.Idx → Elt F .f32) (tri r q hr hq) := by
  unfold vB
  have e := Shape.reshapeEquiv_eq_of_rowMajor squeezes_S1x256x1024_S256x1024.numel_eq (tri1_pos p)
  show (m ((d : Thread nD τ).loc main_arg0) : S1x16384x2048.Idx → Elt F .f32)
    (((View.whole main_arg0).slice (Rect.unit (s := S1x16384x2048) (k0_off2 d (BitVec.ofNat 32 (256 * (ck k).val))) S1x256x1024.size (k0_off2_inb d (ck k)))).emb
      (Shape.reshapeEquiv squeezes_S1x256x1024_S256x1024.numel_eq p)) = _
  rw [e]
  refine congrArg (m ((d : Thread nD τ).loc main_arg0) : S1x16384x2048.Idx → Elt F .f32) (funext fun a => Fin.ext ?_)
  refine (ValueKit.view_emb_slice_whole_unit_val main_arg0 (k0_off2 d (BitVec.ofNat 32 (256 * (ck k).val))) S1x256x1024.size (k0_off2_inb d (ck k)) (tri1 p) a).trans ?_
  refine (congrArg (fun n => n + (tri1 p a).val) (congrFun (k0_off2_eq d (ck k)) a)).trans ?_
  fin_cases a
  · rfl
  · exact er.symm
  · exact eq.symm

end Read

/-! ## The reference's sum -/

/-- An index of the whole argument. -/
def triW (a r q : ℕ) (ha : a < 2) (hr : r < 16384) (hq : q < 2048) : Cert.ReferenceIdeal.S2x16384x2048.Idx := fun b => ⟨(![a, r, q] : Fin 3 → ℕ) b, by
  revert b; intro (b : Fin 3); fin_cases b
  · exact ha
  · exact hr
  · exact hq⟩

theorem reduces_whole : Cert.ReferenceIdeal.S2x16384x2048.Reduces [0] Cert.ReferenceIdeal.S16384x2048 := by decide

/-- The sum over the leading axis, read at an index: the two slices there, added. -/
theorem sum_apply (X : FVec Ideal Cert.ReferenceIdeal.S2x16384x2048 .f32) (j : Cert.ReferenceIdeal.S16384x2048.Idx) :
    (Host.reduceAdd X (constant (F := Ideal) Cert.ReferenceIdeal.S_ .f32 0x00000000#32) Cert.ReferenceIdeal.Gen.facts.reducesTo_S2x16384x2048_S16384x2048_d0 Cert.ReferenceIdeal.Gen.facts.h_S_ : FVec Ideal Cert.ReferenceIdeal.S16384x2048 .f32) j
      = (X (triW 0 (j 0).val (j 1).val (by decide) (j 0).isLt (j 1).isLt) + X (triW 1 (j 0).val (j 1).val (by decide) (j 0).isLt (j 1).isLt) : EReal) := by
  rw [ValueIdx.hostReduceAdd_apply]
  unfold Ideal.hostReduceAdd
  have h0 : (constant (F := Ideal) Cert.ReferenceIdeal.S_ .f32 0x00000000#32) (Shape.Idx.first Cert.ReferenceIdeal.Gen.facts.h_S_) = (0 : EReal) := Ideal.ofBits_zero_f32
  rw [h0, zero_add]
  refine (reduces_whole.sum_filter_drop_single (α := EReal) X j).trans ?_
  refine (Fin.sum_univ_two (M := EReal) (fun k : Fin 2 => X (reduces_whole.lift j k))).trans ?_
  have e : ∀ k : Fin 2, reduces_whole.lift j k = triW k.val (j 0).val (j 1).val k.isLt (j 0).isLt (j 1).isLt := by
    intro k; funext a; fin_cases a <;> rfl
  exact congrArg₂ (fun a b : EReal => a + b) (congrArg X (e 0)) (congrArg X (e 1))

/-! ## The two sums agree -/

theorem peerY_div8 : ∀ c : Dev nD, (peerY c).val / 8 = c.val / 8 := by decide
theorem peerY_mod : ∀ c : Dev nD, (peerY c).val / 4 % 2 = 1 - c.val / 4 % 2 := by decide
theorem peerX_div8 : ∀ c : Dev nD, (peerX c).val / 8 = 1 - c.val / 8 := by decide
theorem peerX_mod : ∀ c : Dev nD, (peerX c).val / 4 % 2 = c.val / 4 % 2 := by decide

theorem owner_div8 (c : Dev nD) (r : ℕ) (hr : r < 16384) : (owner c r).val / 8 = r / 8192 := by
  unfold owner
  split
  · next h => exact h.symm
  · next h => rw [peerX_div8]; have : c.val < 16 := c.isLt; omega
theorem owner_mod (c : Dev nD) (r : ℕ) : (owner c r).val / 4 % 2 = c.val / 4 % 2 := by
  unfold owner
  split
  · rfl
  · exact peerX_mod c

theorem meshLin_y : ∀ c : Dev nD, Layout.meshLin [2, 2, 4] c.val [1] = c.val / 4 % 2 := by decide

section Agree
variable (m : (ℓ : Loc nD τ sig) → Buf (Elt Ideal) ℓ)
variable (X : FVec Ideal Cert.ReferenceIdeal.S2x16384x2048 .f32)

/-- What device `d` holds of the argument: the slice its place on the `y` axis names. -/
theorem arg_apply (hm : ∀ c : Dev nD, m ((c : Thread nD τ).loc main_arg0) = Layout.blockN ⟨3, ![1, 16384, 2048]⟩ ⟨3, ![2, 16384, 2048]⟩ (Layout.meshBlock [2, 2, 4] ![[1], [], []] c) X)
    (d : Dev nD) (a r q : ℕ) (ha : a < 2) (hr : r < 16384) (hq : q < 2048) (ea : a = d.val / 4 % 2) :
    (m ((d : Thread nD τ).loc main_arg0) : S1x16384x2048.Idx → EReal) (tri r q hr hq) = X (triW a r q ha hr hq) := by
  rw [hm d]
  refine congrArg X (funext fun b => Fin.ext ?_)
  have hl := meshLin_y d
  refine (Layout.TilesN.idx_val _ _ _ b).trans ?_
  rw [Layout.meshBlock_val]
  fin_cases b
  · refine Eq.trans (b := Layout.meshLin [2, 2, 4] d.val [1] * 1 + 0) rfl ?_
    refine Eq.trans (b := a) ?_ rfl
    omega
  · refine Eq.trans (b := 0 * 16384 + r) rfl (Eq.trans (b := r) ?_ rfl)
    omega
  · refine Eq.trans (b := 0 * 2048 + q) rfl (Eq.trans (b := q) ?_ rfl)
    omega

theorem outG_eq (hm : ∀ c : Dev nD, m ((c : Thread nD τ).loc main_arg0) = Layout.blockN ⟨3, ![1, 16384, 2048]⟩ ⟨3, ![2, 16384, 2048]⟩ (Layout.meshBlock [2, 2, 4] ![[1], [], []] c) X)
    (c : Dev nD) :
    outG m c = Layout.blockN ⟨2, ![16384, 1024]⟩ ⟨2, ![16384, 2048]⟩ (Layout.meshBlock [2, 2, 4] ![[], [1]] c)
      (truncf (F := Ideal) .bf16 (Host.reduceAdd X (constant (F := Ideal) Cert.ReferenceIdeal.S_ .f32 0x00000000#32) Cert.ReferenceIdeal.Gen.facts.reducesTo_S2x16384x2048_S16384x2048_d0 Cert.ReferenceIdeal.Gen.facts.h_S_ : FVec Ideal Cert.ReferenceIdeal.S16384x2048 .f32) bitsLt_bf16_f32) := by
  funext i
  have hi0 : (i 0).val < 16384 := (i 0).isLt
  have hi1 : (i 1).val < 1024 := (i 1).isLt
  have hc : c.val < 16 := c.isLt
  have hy : c.val / 4 % 2 < 2 := Nat.mod_lt _ (by decide)
  have hq : 1024 * (c.val / 4 % 2) + (i 1).val < 2048 := by omega
  -- the reference at this device's index
  have hl := meshLin_y c
  have hr : (Layout.blockN ⟨2, ![16384, 1024]⟩ ⟨2, ![16384, 2048]⟩ (Layout.meshBlock [2, 2, 4] ![[], [1]] c)
      (truncf (F := Ideal) .bf16 (Host.reduceAdd X (constant (F := Ideal) Cert.ReferenceIdeal.S_ .f32 0x00000000#32) Cert.ReferenceIdeal.Gen.facts.reducesTo_S2x16384x2048_S16384x2048_d0 Cert.ReferenceIdeal.Gen.facts.h_S_ : FVec Ideal Cert.ReferenceIdeal.S16384x2048 .f32) bitsLt_bf16_f32)) i
      = (X (triW 0 (i 0).val (1024 * (c.val / 4 % 2) + (i 1).val) (by decide) hi0 hq) + X (triW 1 (i 0).val (1024 * (c.val / 4 % 2) + (i 1).val) (by decide) hi0 hq) : EReal) := by
    rw [Layout.blockN_apply]
    refine (sum_apply X _).trans ?_
    have e : ∀ (a : ℕ) (ha : a < 2) (r r' q q' : ℕ) (h1 : r < 16384) (h2 : r' < 16384) (h3 : q < 2048) (h4 : q' < 2048), r = r' → q = q' →
        X (triW a r q ha h1 h3) = X (triW a r' q' ha h2 h4) := by
      intro a ha r r' q q' h1 h2 h3 h4 h h'; subst h; subst h'; rfl
    refine congrArg₂ (fun a b : EReal => a + b) (e _ _ _ _ _ _ _ _ _ _ ?_ ?_) (e _ _ _ _ _ _ _ _ _ _ ?_ ?_)
    · refine Eq.trans (b := 0 * 16384 + (i 0).val) rfl ?_
      omega
    · refine Eq.trans (b := Layout.meshLin [2, 2, 4] c.val [1] * 1024 + (i 1).val) rfl ?_
      omega
    · refine Eq.trans (b := 0 * 16384 + (i 0).val) rfl ?_
      omega
    · refine Eq.trans (b := Layout.meshLin [2, 2, 4] c.val [1] * 1024 + (i 1).val) rfl ?_
      omega
  refine Eq.trans ?_ hr.symm
  have hd8 := owner_div8 c (i 0).val hi0
  have hdm := owner_mod c (i 0).val
  have hp8 := peerY_div8 (owner c (i 0).val)
  have hpm := peerY_mod (owner c (i 0).val)
  show (vB m (owner c (i 0).val) ((i 0).val % 8192 / 256) (ix ((i 0).val % 256) (i 1).val _ _)
      + vA m (peerY (owner c (i 0).val)) ((i 0).val % 8192 / 256) (ix ((i 0).val % 256) (i 1).val _ _) : EReal) = _
  generalize owner c (i 0).val = d at *
  have e1 := vB_apply m d ((i 0).val % 8192 / 256) (ix ((i 0).val % 256) (i 1).val (Nat.mod_lt _ (by decide)) (i 1).isLt) (i 0).val (1024 * (c.val / 4 % 2) + (i 1).val) hi0 hq
    (by show (i 0).val = 8192 * (d.val / 8) + 256 * ((i 0).val % 8192 / 256 % 32) + (i 0).val % 256
        omega)
    (by show 1024 * (c.val / 4 % 2) + (i 1).val = 1024 * (d.val / 4 % 2) + (i 1).val
        omega)
  have e2 := vA_apply m (peerY d) ((i 0).val % 8192 / 256) (ix ((i 0).val % 256) (i 1).val (Nat.mod_lt _ (by decide)) (i 1).isLt) (i 0).val (1024 * (c.val / 4 % 2) + (i 1).val) hi0 hq
    (by show (i 0).val = 8192 * ((peerY d).val / 8) + 256 * ((i 0).val % 8192 / 256 % 32) + (i 0).val % 256
        omega)
    (by show 1024 * (c.val / 4 % 2) + (i 1).val = 1024 - 1024 * ((peerY d).val / 4 % 2) + (i 1).val
        omega)
  refine (congrArg₂ (fun a b : EReal => a + b) e1 e2).trans ?_
  rcases (show c.val / 4 % 2 = 0 ∨ c.val / 4 % 2 = 1 by omega) with h | h
  · exact congrArg₂ (fun a b : EReal => a + b) (arg_apply m X hm d 0 _ _ (by decide) _ _ (by omega)) (arg_apply m X hm (peerY d) 1 _ _ (by decide) _ _ (by omega))
  · exact (congrArg₂ (fun a b : EReal => a + b) (arg_apply m X hm d 1 _ _ (by decide) _ _ (by omega)) (arg_apply m X hm (peerY d) 0 _ _ (by decide) _ _ (by omega))).trans (add_comm _ _)

end Agree

end Cert.KernelIdeal.Prf

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Launch
public import proofs.«01_k».proof.Proof.Value
public import Idealize.ShloMosaic.Adequacy
public import Idealize.ShloMosaic.Init

@[expose] public section

noncomputable section

namespace Cert.Proof

open Idealize.ShloMosaic Idealize.SL.Sem

open Cert.KernelIdeal.Prf (run_main outG outG_eq)

/-- The printed kernel, over machine floats. Its text is that of the program the run is written for. -/
theorem frame_kernel : Cert.quiescent_Kernel := fun m ρ _ =>
  (θ_run Cert.KernelIdeal.defs _ _).mono (fun _ h => ⟨fun c => (h.1 c).2, h.2⟩) (run_main (F := Bits) m ρ)

theorem frame_kernelIdeal : Cert.quiescent_KernelIdeal := fun m ρ _ =>
  (θ_run Cert.KernelIdeal.defs _ _).mono (fun _ h => ⟨fun c => (h.1 c).2, h.2⟩) (run_main (F := Ideal) m ρ)

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The sum the reference computes is what the devices hold the parts of. -/
theorem algebraic : Cert.algebraic_KernelIdeal_ReferenceIdeal := fun m ρ m' ρ' _ hagree =>
  ⟨_, (θ_run Cert.KernelIdeal.defs _ _).mono (fun _ h c => ⟨(h.1 c).1.trans (outG_eq m _ hagree c), (h.1 c).2⟩) (run_main (F := Ideal) m ρ),
    (θ_run Cert.ReferenceIdeal.defs _ _).mono (fun _ h => h 0) (Cert.ReferenceIdeal.Value.run (F := Ideal) m' ρ')⟩

theorem claim : Cert.Claim :=
  ⟨Cert.Kernel.Gen.facts, Cert.KernelIdeal.Gen.facts, Cert.ReferenceIdeal.Gen.facts,
    frame_kernel, frame_kernelIdeal, frame_reference, trivial, algebraic⟩

end Cert.Proof

end
